-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S10000x128 : Shape := ⟨2, ![10000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S10000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 10000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S10000x128 : Shape := ⟨2, ![10000, 128]⟩
abbrev S6400x128 : Shape := ⟨2, ![6400, 128]⟩
abbrev S819200x128 : Shape := ⟨2, ![819200, 128]⟩
abbrev S1x128 : Shape := ⟨2, ![1, 128]⟩
abbrev S128x128 : Shape := ⟨2, ![128, 128]⟩
abbrev S_ : Shape := ⟨0, ![]⟩
abbrev S624x128 : Shape := ⟨2, ![624, 128]⟩
abbrev S16x128 : Shape := ⟨2, ![16, 128]⟩
abbrev S128 : Shape := ⟨1, ![128]⟩
abbrev S4096x200x128 : Shape := ⟨3, ![4096, 200, 128]⟩

abbrev nBuf : Table → Nat
  | .hbm => 5
  | .shared => 1
  | .local .scVector .vmem => 6
  | _ => 0

abbrev bufTy : (tb : Table) → Fin (nBuf tb) → BufTy
  | .hbm, ⟨0, _⟩ => ⟨S4096x200, .i32⟩
  | .hbm, ⟨1, _⟩ => ⟨S10000x128, .f32⟩
  | .hbm, ⟨2, _⟩ => ⟨S6400x128, .i32⟩
  | .hbm, ⟨3, _⟩ => ⟨S819200x128, .f32⟩
  | .hbm, ⟨4, _⟩ => ⟨S4096x200x128, .f32⟩
  | .shared, ⟨0, _⟩ => ⟨S10000x128, .f32⟩
  | .local .scVector .vmem, ⟨0, _⟩ => ⟨S1x128, .i32⟩
  | .local .scVector .vmem, ⟨1, _⟩ => ⟨S1x128, .i32⟩
  | .local .scVector .vmem, ⟨2, _⟩ => ⟨S1x128, .i32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 5 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev cc0_scratch6 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c624_i32_0 : BitVec 32 := 624#32
  let v4 : BitVec 32 := Scalar.muli arg1 c624_i32_0
  let c0_i32_39_r0 : BitVec 32 := 0#32
  ![v4.toNat, 0]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v8 : BitVec 32 := Scalar.muli v1 c200_i32
  let v9 : BitVec 32 := Scalar.addi v8 c0_i32_2
  let c0_i32_39_r2 : BitVec 32 := 0#32
  ![v9.toNat, 0]
def k0_off2_at (r : Fin 4) : BitVec 32 :=
  if r.val < 2 then
    if r.val < 1 then
      0#32
    else
      1#32
  else
    if r.val < 3 then
      2#32
    else
      199#32
@[reducible] def k0_t1_loop : Scf.Loop 32 :=
  let c0_i32_8 : BitVec 32 := 0#32
  let c66_i32 : BitVec 32 := 66#32
  let v15 : BitVec 32 := Scalar.addi c0_i32_8 c66_i32
  let c1_i32_9 : BitVec 32 := 1#32
  ⟨c0_i32_8, v15, c1_i32_9⟩
def k0_cond2 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c0_i32_40 : BitVec 32 := 0#32
  let v48 : BitVec 32 := Scalar.addi v47 c0_i32_40
  let c1_i32_41 : BitVec 32 := 1#32
  let v49 : BitVec 32 := Scalar.addi v48 c1_i32_41
  let c200_i32_42 : BitVec 32 := 200#32
  let v50 : BitVec 1 := Scalar.cmpi .slt v49 c200_i32_42
  let v51 : BitVec 32 := Scalar.extui v50
  let c0_i32_43 : BitVec 32 := 0#32
  let v52 : BitVec 1 := Scalar.cmpi .ne v51 c0_i32_43
  v52

def k0_cond3 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c0_i32_40 : BitVec 32 := 0#32
  let v48 : BitVec 32 := Scalar.addi v47 c0_i32_40
  let c2_i32_81 : BitVec 32 := 2#32
  let v96 : BitVec 1 := Scalar.cmpi .sge v48 c2_i32_81
  let v97 : BitVec 32 := Scalar.extui v96
  let c0_i32_82 : BitVec 32 := 0#32
  let v98 : BitVec 1 := Scalar.cmpi .ne v97 c0_i32_82
  v98

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c0_i32_40 : BitVec 32 := 0#32
  let v48 : BitVec 32 := Scalar.addi v47 c0_i32_40
  let c2_i32_88 : BitVec 32 := 2#32
  let v103 : BitVec 32 := Scalar.subi v48 c2_i32_88
  let c128_i32_89 : BitVec 32 := 128#32
  let v104 : BitVec 32 := Scalar.muli v103 c128_i32_89
  let v105 : BitVec 32 := Scalar.addi v2 v104
  let c0_i32_90 : BitVec 32 := 0#32
  ![v105.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v8 : BitVec 32 := Scalar.muli v1 c200_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c0_i32_40 : BitVec 32 := 0#32
  let v48 : BitVec 32 := Scalar.addi v47 c0_i32_40
  let c1_i32_92 : BitVec 32 := 1#32
  let v108 : BitVec 32 := Scalar.addi v48 c1_i32_92
  let v109 : BitVec 32 := Scalar.addi v8 v108
  let c0_i32_93 : BitVec 32 := 0#32
  ![v109.toNat, 0]
def k0_off5 (i : grid0.Coords) (k0_t1 : Fin k0_t1_loop.trips) (c0_i32_40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let v48 : BitVec 32 := Scalar.addi v47 c0_i32_40
  let c128_i32 : BitVec 32 := 128#32
  let v56 : BitVec 32 := Scalar.muli v48 c128_i32
  let v57 : BitVec 32 := Scalar.addi v2 v56
  let c0_i32_48 : BitVec 32 := 0#32
  ![v57.toNat, 0]
def k0_cond4 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c0_i32_40 : BitVec 32 := 0#32
  let v48 : BitVec 32 := Scalar.addi v47 c0_i32_40
  let c3_i32_50 : BitVec 32 := 3#32
  let v60 : BitVec 32 := Scalar.addi v48 c3_i32_50
  let c200_i32_51 : BitVec 32 := 200#32
  let v61 : BitVec 1 := Scalar.cmpi .slt v60 c200_i32_51
  let v62 : BitVec 32 := Scalar.extui v61
  let c0_i32_52 : BitVec 32 := 0#32
  let v63 : BitVec 1 := Scalar.cmpi .ne v62 c0_i32_52
  v63

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v8 : BitVec 32 := Scalar.muli v1 c200_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c0_i32_40 : BitVec 32 := 0#32
  let v48 : BitVec 32 := Scalar.addi v47 c0_i32_40
  let c3_i32_81 : BitVec 32 := 3#32
  let v96 : BitVec 32 := Scalar.addi v48 c3_i32_81
  let v97 : BitVec 32 := Scalar.addi v8 v96
  let c0_i32_82 : BitVec 32 := 0#32
  ![v97.toNat, 0]
def k0_cond5 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c1_i32_53 : BitVec 32 := 1#32
  let v64 : BitVec 32 := Scalar.addi v47 c1_i32_53
  let c1_i32_54 : BitVec 32 := 1#32
  let v65 : BitVec 32 := Scalar.addi v64 c1_i32_54
  let c200_i32_55 : BitVec 32 := 200#32
  let v66 : BitVec 1 := Scalar.cmpi .slt v65 c200_i32_55
  let v67 : BitVec 32 := Scalar.extui v66
  let c0_i32_56 : BitVec 32 := 0#32
  let v68 : BitVec 1 := Scalar.cmpi .ne v67 c0_i32_56
  v68

def k0_cond6 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c1_i32_53 : BitVec 32 := 1#32
  let v64 : BitVec 32 := Scalar.addi v47 c1_i32_53
  let c2_i32_81 : BitVec 32 := 2#32
  let v96 : BitVec 1 := Scalar.cmpi .sge v64 c2_i32_81
  let v97 : BitVec 32 := Scalar.extui v96
  let c0_i32_82 : BitVec 32 := 0#32
  let v98 : BitVec 1 := Scalar.cmpi .ne v97 c0_i32_82
  v98

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c1_i32_53 : BitVec 32 := 1#32
  let v64 : BitVec 32 := Scalar.addi v47 c1_i32_53
  let c2_i32_88 : BitVec 32 := 2#32
  let v103 : BitVec 32 := Scalar.subi v64 c2_i32_88
  let c128_i32_89 : BitVec 32 := 128#32
  let v104 : BitVec 32 := Scalar.muli v103 c128_i32_89
  let v105 : BitVec 32 := Scalar.addi v2 v104
  let c0_i32_90 : BitVec 32 := 0#32
  ![v105.toNat, 0]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v8 : BitVec 32 := Scalar.muli v1 c200_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c1_i32_53 : BitVec 32 := 1#32
  let v64 : BitVec 32 := Scalar.addi v47 c1_i32_53
  let c1_i32_92 : BitVec 32 := 1#32
  let v108 : BitVec 32 := Scalar.addi v64 c1_i32_92
  let v109 : BitVec 32 := Scalar.addi v8 v108
  let c0_i32_93 : BitVec 32 := 0#32
  ![v109.toNat, 0]
def k0_cond7 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c1_i32_53 : BitVec 32 := 1#32
  let v64 : BitVec 32 := Scalar.addi v47 c1_i32_53
  let c3_i32_64 : BitVec 32 := 3#32
  let v76 : BitVec 32 := Scalar.addi v64 c3_i32_64
  let c200_i32_65 : BitVec 32 := 200#32
  let v77 : BitVec 1 := Scalar.cmpi .slt v76 c200_i32_65
  let v78 : BitVec 32 := Scalar.extui v77
  let c0_i32_66 : BitVec 32 := 0#32
  let v79 : BitVec 1 := Scalar.cmpi .ne v78 c0_i32_66
  v79

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v8 : BitVec 32 := Scalar.muli v1 c200_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c1_i32_53 : BitVec 32 := 1#32
  let v64 : BitVec 32 := Scalar.addi v47 c1_i32_53
  let c3_i32_81 : BitVec 32 := 3#32
  let v96 : BitVec 32 := Scalar.addi v64 c3_i32_81
  let v97 : BitVec 32 := Scalar.addi v8 v96
  let c0_i32_82 : BitVec 32 := 0#32
  ![v97.toNat, 0]
def k0_cond8 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c2_i32_67 : BitVec 32 := 2#32
  let v80 : BitVec 32 := Scalar.addi v47 c2_i32_67
  let c1_i32_68 : BitVec 32 := 1#32
  let v81 : BitVec 32 := Scalar.addi v80 c1_i32_68
  let c200_i32_69 : BitVec 32 := 200#32
  let v82 : BitVec 1 := Scalar.cmpi .slt v81 c200_i32_69
  let v83 : BitVec 32 := Scalar.extui v82
  let c0_i32_70 : BitVec 32 := 0#32
  let v84 : BitVec 1 := Scalar.cmpi .ne v83 c0_i32_70
  v84

def k0_cond9 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c2_i32_67 : BitVec 32 := 2#32
  let v80 : BitVec 32 := Scalar.addi v47 c2_i32_67
  let c2_i32_81 : BitVec 32 := 2#32
  let v96 : BitVec 1 := Scalar.cmpi .sge v80 c2_i32_81
  let v97 : BitVec 32 := Scalar.extui v96
  let c0_i32_82 : BitVec 32 := 0#32
  let v98 : BitVec 1 := Scalar.cmpi .ne v97 c0_i32_82
  v98

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c2_i32_67 : BitVec 32 := 2#32
  let v80 : BitVec 32 := Scalar.addi v47 c2_i32_67
  let c2_i32_88 : BitVec 32 := 2#32
  let v103 : BitVec 32 := Scalar.subi v80 c2_i32_88
  let c128_i32_89 : BitVec 32 := 128#32
  let v104 : BitVec 32 := Scalar.muli v103 c128_i32_89
  let v105 : BitVec 32 := Scalar.addi v2 v104
  let c0_i32_90 : BitVec 32 := 0#32
  ![v105.toNat, 0]
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v8 : BitVec 32 := Scalar.muli v1 c200_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c2_i32_67 : BitVec 32 := 2#32
  let v80 : BitVec 32 := Scalar.addi v47 c2_i32_67
  let c1_i32_92 : BitVec 32 := 1#32
  let v108 : BitVec 32 := Scalar.addi v80 c1_i32_92
  let v109 : BitVec 32 := Scalar.addi v8 v108
  let c0_i32_93 : BitVec 32 := 0#32
  ![v109.toNat, 0]
def k0_cond10 (k0_t1 : Fin k0_t1_loop.trips) : BitVec 1 :=
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c2_i32_67 : BitVec 32 := 2#32
  let v80 : BitVec 32 := Scalar.addi v47 c2_i32_67
  let c3_i32_78 : BitVec 32 := 3#32
  let v92 : BitVec 32 := Scalar.addi v80 c3_i32_78
  let c200_i32_79 : BitVec 32 := 200#32
  let v93 : BitVec 1 := Scalar.cmpi .slt v92 c200_i32_79
  let v94 : BitVec 32 := Scalar.extui v93
  let c0_i32_80 : BitVec 32 := 0#32
  let v95 : BitVec 1 := Scalar.cmpi .ne v94 c0_i32_80
  v95

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v8 : BitVec 32 := Scalar.muli v1 c200_i32
  let c0_i32_39 : BitVec 32 := 0#32
  let c0_i32_8 : BitVec 32 := 0#32
  let c1_i32_9 : BitVec 32 := 1#32
  let arg21 : BitVec 32 := Scf.iv c0_i32_8 c1_i32_9 k0_t1
  let c3_i32 : BitVec 32 := 3#32
  let v46 : BitVec 32 := Scalar.muli arg21 c3_i32
  let v47 : BitVec 32 := Scalar.addi c0_i32_39 v46
  let c2_i32_67 : BitVec 32 := 2#32
  let v80 : BitVec 32 := Scalar.addi v47 c2_i32_67
  let c3_i32_81 : BitVec 32 := 3#32
  let v96 : BitVec 32 := Scalar.addi v80 c3_i32_81
  let v97 : BitVec 32 := Scalar.addi v8 v96
  let c0_i32_82 : BitVec 32 := 0#32
  ![v97.toNat, 0]
def k0_off13 (i : grid0.Coords) (c25344_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v19 : BitVec 32 := Scalar.addi v2 c25344_i32
  let c0_i32_15 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S10000x128 : Shape := ⟨2, ![10000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S10000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Values.lean ====
/-
  What the arrays hold. The kernel looks rows of a table up: entry `(r, c)` of the index array names a row of the table,
  and row `128 r + c` of the result is that row. This file says so for the whole result (`lookup`), for the 128 rows of
  one chunk (`chunkRows`) and for the 128 indices of one chunk (`chunkIdx`), and reads the three off the slices the
  kernel's copies move.
-/
module

public import proofs.«01_k».proof.Defs
public import Idealize.ShloMosaic.Lib.SparseCore.Stream
public import Idealize.ShloMosaic.Lib.ViewIndex
public import Idealize.ShloMosaic.Lib.Writes
public import proofs.«01_k».proof.Proof.Gen.KernelIdeal

@[expose] public section

noncomputable section

namespace Cert.Proof.Look

open Cert.KernelIdeal Cert.KernelIdeal.Gen
open Idealize.ShloMosaic

variable {F : FTy → Type}

/-- The index `(r, c)` of an array of two axes (each number taken modulo its extent). -/
def pt {a b : ℕ} [NeZero a] [NeZero b] (r c : ℕ) : (⟨2, ![a, b]⟩ : Shape).Idx :=
  fun | ⟨0, _⟩ => Fin.ofNat a r | ⟨1, _⟩ => Fin.ofNat b c

theorem pt_zero {a b : ℕ} [NeZero a] [NeZero b] (r c : ℕ) : ((pt r c : (⟨2, ![a, b]⟩ : Shape).Idx) 0).val = r % a := rfl
theorem pt_one {a b : ℕ} [NeZero a] [NeZero b] (r c : ℕ) : ((pt r c : (⟨2, ![a, b]⟩ : Shape).Idx) 1).val = c % b := rfl

/-- Two indices of two axes agree when their coordinates do. -/
theorem ext2 {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

abbrev IdxArr (F : FTy → Type) : Type := S6400x128.Idx → Elt F .i32
abbrev TabArr (F : FTy → Type) : Type := S10000x128.Idx → Elt F .f32
abbrev OutArr (F : FTy → Type) : Type := S819200x128.Idx → Elt F .f32

/-- The indices of chunk `n`: row `n` of the index array. -/
def chunkIdx (X : IdxArr F) (n : ℕ) : S1x128.Idx → Elt F .i32 := fun x => X (pt n (x 1).val)
/-- The table rows chunk `n` names. -/
def chunkRows (X : IdxArr F) (T : TabArr F) (n : ℕ) : S128x128.Idx → Elt F .f32 :=
  fun x => T (pt (X (pt n (x 0).val)).toNat (x 1).val)
/-- The whole result: row `o` is the table row that entry `(o / 128, o % 128)` of the index array names. -/
def lookup (X : IdxArr F) (T : TabArr F) : OutArr F :=
  fun o => T (pt (X (pt ((o 0).val / 128) ((o 0).val % 128))).toNat (o 1).val)

/-- Every entry of the index array names a row of the table. -/
def Ranged (X : IdxArr F) : Prop := ∀ x, (X x).toNat < 10000

/-! ## Slices -/

/-- The index a unit-stride slice puts its own index at. -/
theorem unit_emb_val {s : Shape} (off size : Fin s.rank → ℕ) (inb) (x : (Rect.unit (s := s) off size inb).shape.Idx) (a : Fin s.rank) :
    ((Rect.unit (s := s) off size inb).emb x a).val = off a + (x a).val := by
  rw [Rect.emb_apply]
  show off a + 1 * (x a).val = _
  rw [Nat.one_mul]

section Idx

variable (off : Fin 2 → ℕ) (inb : ∀ a, off a + S1x128.size a ≤ S6400x128.size a)

/-- Chunk `n`'s slice of the index array, as the copies address it. -/
abbrev idxSlice : Memref sig .scVector .hbm S1x128 .i32 :=
  (Memref.whole main_v0_scv : Memref sig .scVector .hbm S6400x128 .i32).slice (Rect.unit (s := S6400x128) off S1x128.size inb) (fun _ => rfl)

theorem read_idxSlice {n : ℕ} (h : off = ![n, 0]) (X : IdxArr F) (x : S1x128.Idx) :
    (idxSlice off inb).view.read (Elt F) X x = chunkIdx X n x := by
  subst h
  show X ((Rect.unit (s := S6400x128) ![n, 0] S1x128.size inb).emb x) = X (pt n (x 1).val)
  have hn : n + 1 ≤ 6400 := inb 0
  have h0 : (x 0).val < 1 := (x 0).isLt
  have h1 : (x 1).val < 128 := (x 1).isLt
  refine congrArg X (ext2 ?_ ?_)
  · rw [unit_emb_val, pt_zero]; show n + (x 0).val = n % 6400; omega
  · rw [unit_emb_val, pt_one]; show 0 + (x 1).val = (x 1).val % 128; omega

/-- Row `n` of the index array. -/
def rowSet (n : ℕ) : Finset S6400x128.Idx := Finset.univ.filter fun x => (x 0).val = n

theorem set_idxSlice {n : ℕ} (h : off = ![n, 0]) : (idxSlice off inb).view.set = rowSet n := by
  subst h
  show ((View.whole (main_v0_scv : Ref sig .scVector)).slice _).set = _
  rw [View.set_slice_whole]
  refine Finset.ext fun o => ?_
  rw [Rect.mem_set_unit, rowSet, Finset.mem_filter]
  have h1 : (o 1).val < 128 := (o 1).isLt
  constructor
  · intro h
    have := h 0
    change n ≤ (o 0).val ∧ (o 0).val < n + 1 at this
    exact ⟨Finset.mem_univ _, by omega⟩
  · rintro ⟨-, h⟩ a
    match a with
    | ⟨0, _⟩ => change n ≤ (o 0).val ∧ (o 0).val < n + 1; omega
    | ⟨1, _⟩ => change 0 ≤ (o 1).val ∧ (o 1).val < 0 + 128; omega

end Idx

section Out

variable (off : Fin 2 → ℕ) (inb : ∀ a, off a + S128x128.size a ≤ S819200x128.size a)

/-- One chunk's slice of the result, as the copies address it. -/
abbrev outSlice : Memref sig .scVector .hbm S128x128 .f32 :=
  (Memref.whole main_v1_scv : Memref sig .scVector .hbm S819200x128 .f32).slice (Rect.unit (s := S819200x128) off S128x128.size inb) (fun _ => rfl)

/-- The rows of chunk `n` of the result. -/
def chunkSet (n : ℕ) : Finset S819200x128.Idx := Finset.univ.filter fun o => (o 0).val / 128 = n

theorem mem_chunkSet {n : ℕ} {o : S819200x128.Idx} : o ∈ chunkSet n ↔ (o 0).val / 128 = n := by simp [chunkSet]

theorem set_outSlice {n : ℕ} (h : off = ![128 * n, 0]) : (outSlice off inb).view.set = chunkSet n := by
  subst h
  show ((View.whole (main_v1_scv : Ref sig .scVector)).slice _).set = _
  rw [View.set_slice_whole]
  refine Finset.ext fun o => ?_
  rw [Rect.mem_set_unit, mem_chunkSet]
  have h1 : (o 1).val < 128 := (o 1).isLt
  constructor
  · intro h
    have := h 0
    change 128 * n ≤ (o 0).val ∧ (o 0).val < 128 * n + 128 at this
    omega
  · intro h a
    match a with
    | ⟨0, _⟩ => change 128 * n ≤ (o 0).val ∧ (o 0).val < 128 * n + 128; omega
    | ⟨1, _⟩ => change 0 ≤ (o 1).val ∧ (o 1).val < 0 + 128; omega

/-- The slice written with chunk `n`'s rows holds the result's on them. -/
theorem write_outSlice {n : ℕ} (h : off = ![128 * n, 0]) (X : IdxArr F) (T : TabArr F) (fd : OutArr F) (w : S128x128.Idx → Elt F .f32)
    (hw : ∀ x, w x = chunkRows X T n x) : ∀ o ∈ chunkSet n,
    (outSlice off inb).view.write (Elt F) fd w Finset.univ o = lookup X T o := by
  intro o ho
  rw [← set_outSlice off inb h] at ho
  obtain ⟨x, -, rfl⟩ := Finset.mem_map.mp ho
  subst h
  have e : (outSlice ![128 * n, 0] inb).view.read (Elt F) ((outSlice ![128 * n, 0] inb).view.write (Elt F) fd w Finset.univ) x = w x :=
    View.read_write_of_mem (v := (outSlice ![128 * n, 0] inb).view) fd w (Finset.mem_univ x)
  refine Eq.trans (show _ = _ from e) ((hw x).trans ?_)
  have hn : 128 * n + 128 ≤ 819200 := inb 0
  have h0 : (x 0).val < 128 := (x 0).isLt
  have h1 : (x 1).val < 128 := (x 1).isLt
  unfold chunkRows lookup
  have e0 : (((outSlice ![128 * n, 0] inb).view.emb x) 0).val = 128 * n + (x 0).val := unit_emb_val (s := S819200x128) ![128 * n, 0] S128x128.size inb x 0
  have e1 : (((outSlice ![128 * n, 0] inb).view.emb x) 1).val = 0 + (x 1).val := unit_emb_val (s := S819200x128) ![128 * n, 0] S128x128.size inb x 1
  rw [show (((outSlice ![128 * n, 0] inb).view.emb x) 0).val / 128 = n by omega,
    show (((outSlice ![128 * n, 0] inb).view.emb x) 0).val % 128 = (x 0).val by omega,
    show (((outSlice ![128 * n, 0] inb).view.emb x) 1).val = (x 1).val by omega]

end Out

/-! ## The table's copy -/

section Tab

variable (off : Fin 2 → ℕ) (size : Fin 2 → ℕ) (inb : ∀ a, off a + size a ≤ S10000x128.size a)

/-- Some rows of the table in HBM, and the same rows of its shared copy, as the copies address them. -/
abbrev tabSlice : Memref sig .scVector .hbm (Rect.unit (s := S10000x128) off size inb).shape .f32 :=
  (Memref.whole main_arg1_scv : Memref sig .scVector .hbm S10000x128 .f32).slice (Rect.unit (s := S10000x128) off size inb) (fun _ => rfl)
abbrev shSlice : Memref sig .scVector .shared (Rect.unit (s := S10000x128) off size inb).shape .f32 :=
  (Memref.whole cc0_scratch0 : Memref sig .scVector .shared S10000x128 .f32).slice (Rect.unit (s := S10000x128) off size inb) (fun _ => rfl)

theorem set_shSlice : (shSlice off size inb).view.set = (Rect.unit (s := S10000x128) off size inb).set := by
  show ((View.whole (cc0_scratch0 : Ref sig .scVector)).slice _).set = _
  exact View.set_slice_whole _ _

/-- The copy's rows written with the table's hold the table's. -/
theorem write_shSlice (T fd : TabArr F) : ∀ o ∈ (shSlice off size inb).view.set,
    (shSlice off size inb).view.write (Elt F) fd ((tabSlice off size inb).view.read (Elt F) T) Finset.univ o = T o := by
  intro o ho
  obtain ⟨x, -, rfl⟩ := Finset.mem_map.mp ho
  have e : (shSlice off size inb).view.read (Elt F) ((shSlice off size inb).view.write (Elt F) fd ((tabSlice off size inb).view.read (Elt F) T) Finset.univ) x
      = (tabSlice off size inb).view.read (Elt F) T x :=
    View.read_write_of_mem (v := (shSlice off size inb).view) fd _ (Finset.mem_univ x)
  exact e

end Tab

/-! ## The gather -/

/-- What the indirect gather delivers, over the indices of chunk `n`: that chunk's rows. -/
theorem gather_rows (X : IdxArr F) (T : TabArr F) (n : ℕ)
    (idx : S128.Idx → Elt F .i32) (hidx : ∀ y : S128.Idx, idx y = X (pt n (y 0).val)) (g : S10000x128.Idx → Elt F .f32) (hg : ∀ y, g y = T y)
    (hn : S128.numel = S128x128.size gathers_S10000x128_S128x128.axis') (hr : ∀ x, (idx x).toNat < S10000x128.size gathers_S10000x128_S128x128.axis) (x : S128x128.Idx) :
    SparseCore.gatherPayload gathers_S10000x128_S128x128 g (SparseCore.rows idx hn hr) x = chunkRows X T n x := by
  unfold SparseCore.gatherPayload chunkRows
  rw [hg]
  have h1 : (x 1).val < 128 := (x 1).isLt
  refine congrArg T (ext2 ?_ ?_)
  · rw [pt_zero]
    show (idx (S128.rowMajor.symm ((x 0).cast _))).toNat = _
    have hk := Shape.rowMajor_val_one (S128.rowMajor.symm ((x 0).cast hn.symm))
    have hv := hr (S128.rowMajor.symm ((x 0).cast hn.symm))
    rw [Equiv.apply_symm_apply] at hk
    change (x 0).val = _ at hk
    rw [hidx, ← hk] at hv
    rw [hidx, ← hk]
    exact (Nat.mod_eq_of_lt hv).symm
  · rw [pt_one]
    show (x 1).val = _
    rw [Nat.mod_eq_of_lt h1]

/-- One row of indices read as a list. -/
theorem read_squeeze {sp : Space} (ib : Memref sig .scVector sp S1x128 .i32) (f : ib.view.ty.Contents (Elt F)) (y : S128.Idx) :
    ((ib.slice (Rect.unit (s := S1x128) ![0, 0] S1x128.size inb_S1x128_S1x128_0_0) (fun _ => rfl)).squeeze S128 squeezes_S1x128_S128).view.read (Elt F) f y
      = ib.view.read (Elt F) f (pt 0 (y 0).val) := by
  show ib.view.read (Elt F) f ((Rect.unit (s := S1x128) ![0, 0] S1x128.size inb_S1x128_S1x128_0_0).emb (Shape.reshapeEquiv _ y)) = _
  refine congrArg (ib.view.read (Elt F) f) ?_
  have hy : (y 0).val < 128 := (y 0).isLt
  have e : Shape.reshapeEquiv squeezes_S1x128_S128.numel_eq y = pt 0 (y 0).val := by
    refine Shape.reshapeEquiv_eq_of_rowMajor _ ?_
    rw [Shape.rowMajor_val_two, Shape.rowMajor_val_one, pt_zero, pt_one]
    show 0 % 1 * 128 + (y 0).val % 128 = (y 0).val
    omega
  show (Rect.unit (s := S1x128) ![0, 0] S1x128.size inb_S1x128_S1x128_0_0).emb (Shape.reshapeEquiv squeezes_S1x128_S128.numel_eq y) = _
  rw [e]
  refine ext2 ?_ ?_
  · rw [unit_emb_val]; exact Nat.zero_add _
  · rw [unit_emb_val]; exact Nat.zero_add _

theorem set_squeeze {sp : Space} (ib : Memref sig .scVector sp S1x128 .i32) :
    ((ib.slice (Rect.unit (s := S1x128) ![0, 0] S1x128.size inb_S1x128_S1x128_0_0) (fun _ => rfl)).squeeze S128 squeezes_S1x128_S128).view.set = ib.view.set := by
  show ((ib.view.slice _).reshape _ _).set = _
  rw [View.set_reshape, View.set_slice]
  rw [show (Rect.unit (s := S1x128) ![0, 0] S1x128.size inb_S1x128_S1x128_0_0).set = Finset.univ from ?_]
  · rfl
  · refine Finset.eq_univ_iff_forall.mpr fun x => Rect.mem_set_unit.mpr fun a => ?_
    have := (x a).isLt
    match a with
    | ⟨0, _⟩ => exact ⟨Nat.zero_le _, (Nat.zero_add (1 : ℕ)).symm ▸ this⟩
    | ⟨1, _⟩ => exact ⟨Nat.zero_le _, (Nat.zero_add (128 : ℕ)).symm ▸ this⟩

/-- The shared copy read whole. -/
theorem read_shWhole (T : TabArr F) (y : S10000x128.Idx) :
    ((Memref.whole cc0_scratch0 : Memref sig .scVector .shared S10000x128 .f32).slice
      (Rect.unit (s := S10000x128) ![0, 0] S10000x128.size inb_S10000x128_S10000x128_0_0) (fun _ => rfl)).view.read (Elt F) T y = T y := by
  show T ((Rect.unit (s := S10000x128) ![0, 0] S10000x128.size inb_S10000x128_S10000x128_0_0).emb y) = T y
  refine congrArg T (ext2 ?_ ?_)
  · rw [unit_emb_val]; exact Nat.zero_add _
  · rw [unit_emb_val]; exact Nat.zero_add _

theorem set_shWhole :
    ((Memref.whole cc0_scratch0 : Memref sig .scVector .shared S10000x128 .f32).slice
      (Rect.unit (s := S10000x128) ![0, 0] S10000x128.size inb_S10000x128_S10000x128_0_0) (fun _ => rfl)).view.set = Finset.univ := by
  show ((View.whole (cc0_scratch0 : Ref sig .scVector)).slice _).set = _
  rw [View.set_slice_whole]
  refine Finset.eq_univ_iff_forall.mpr fun x => Rect.mem_set_unit.mpr fun a => ?_
  have := (x a).isLt
  match a with
  | ⟨0, _⟩ => exact ⟨Nat.zero_le _, (Nat.zero_add (10000 : ℕ)).symm ▸ this⟩
  | ⟨1, _⟩ => exact ⟨Nat.zero_le _, (Nat.zero_add (128 : ℕ)).symm ▸ this⟩

end Cert.Proof.Look

end
-- ==== Proof.Setup.lean ====
/-
  The program as the launch theorem sees it, the resource algebra, the buffers' locations, and the shares and sets the
  launch cuts the arrays into: every subcore reads the table and the index array through a share of its own, owns 200
  chunks of the result, and fills one part of its SparseCore's shared copy of the table.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.Look

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore the call's core number `c` runs on. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers -/

/-- The index array as given, the table, the index array reshaped, the looked-up rows, the result. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- SparseCore `c`'s shared copy of the table. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

abbrev tV : Memref sig .scVector .hbm S10000x128 .f32 := Memref.whole main_arg1_scv
abbrev iV : Memref sig .scVector .hbm S6400x128 .i32 := Memref.whole main_v0_scv
abbrev oV : Memref sig .scVector .hbm S819200x128 .f32 := Memref.whole main_v1_scv
abbrev shV : Memref sig .scVector .shared S10000x128 .f32 := Memref.whole cc0_scratch0
abbrev ib0 : Memref sig .scVector .vmem S1x128 .i32 := Memref.whole cc0_scratch1
abbrev ib1 : Memref sig .scVector .vmem S1x128 .i32 := Memref.whole cc0_scratch2
abbrev ib2 : Memref sig .scVector .vmem S1x128 .i32 := Memref.whole cc0_scratch3
abbrev rb0 : Memref sig .scVector .vmem S128x128 .f32 := Memref.whole cc0_scratch4
abbrev rb1 : Memref sig .scVector .vmem S128x128 .f32 := Memref.whole cc0_scratch5
abbrev rb2 : Memref sig .scVector .vmem S128x128 .f32 := Memref.whole cc0_scratch6

/-! ## Shares and sets -/

/-- The share of the table and of the index array that subcore `(c, i)` reads through. -/
def qTile (c : Fin τ.nSC) (i : Fin τ.nSub) : PosShare TreeShare :=
  pieceOf (pieceOf fullShare 2 (by decide) (Fin.cast nSC_eq c)) 16 (by decide) (Fin.cast nSub_eq i)
/-- The share of the shared copy that subcore `i` reads through. -/
def qSh (i : Fin τ.nSub) : PosShare TreeShare := pieceOf fullShare 16 (by decide) (Fin.cast nSub_eq i)
/-- One of the three slots' parts of a share. -/
def slot (q : PosShare TreeShare) (k : Fin 3) : PosShare TreeShare := pieceOf q 3 (by decide) k

/-- The rows of the shared copy that subcore `i` fills: 624 of them, the first one the last sixteen too. -/
def partSet (i : ℕ) : Finset S10000x128.Idx := Finset.univ.filter fun x => (x 0).val / 624 % 16 = i

theorem mem_partSet {i : ℕ} {x : S10000x128.Idx} : x ∈ partSet i ↔ (x 0).val / 624 % 16 = i := by simp [partSet]

theorem partSet_disjoint {i j : ℕ} (h : i ≠ j) : Disjoint (partSet i) (partSet j) :=
  Finset.disjoint_left.mpr fun x hx hy => h ((mem_partSet.mp hx).symm.trans (mem_partSet.mp hy))

theorem partSet_cover : (Finset.univ : Finset (Fin 16)).biUnion (fun i => partSet i.val) = Finset.univ := by
  refine Finset.eq_univ_iff_forall.mpr fun x => Finset.mem_biUnion.mpr ⟨⟨(x 0).val / 624 % 16, Nat.mod_lt _ (by decide)⟩, Finset.mem_univ _, ?_⟩
  exact mem_partSet.mpr rfl

theorem chunkSet_disjoint {i j : ℕ} (h : i ≠ j) : Disjoint (chunkSet i) (chunkSet j) :=
  Finset.disjoint_left.mpr fun x hx hy => h ((mem_chunkSet.mp hx).symm.trans (mem_chunkSet.mp hy))

/-- The first chunk of subcore `i` of SparseCore `c`. -/
def chunk0 (c i : ℕ) : ℕ := 400 * i + 200 * c

variable [FloatOps F]

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Part `i` of the shared copy at a share, holding the table's rows. -/
abbrev shPart (T : Dev nD → TabArr F) (d : Dev nD) (c : Fin τ.nSC) (i : ℕ) (q : PosShare TreeShare) : sProp 𝕄 :=
  shLoc d c ↦[partSet i]{q} (T d : Buf (Elt F) (shLoc d c))

/-- What duty `n` in subcore `j`'s round hands over: subcore `n`'s part, at subcore `j`'s share. -/
def bPay (T : Dev nD → TabArr F) (g : GSem nD τ sig) (n : ℕ) : sProp 𝕄 :=
  match g with
  | ((d, .scVector c j), _) => shPart T d c n (qSh j)
  | _ => iprop(emp)

/-- The barrier cells' schedule: one round on each, of one unit duty per subcore of the SparseCore (named by its number). -/
def bRd (T : Dev nD → TabArr F) : Rounds.Schedule (GSem nD τ sig) ℕ 𝕄 where
  duties g r := if isBar g ∧ r = 0 then (Finset.univ : Finset (Fin τ.nSub)).image Fin.val else ∅
  amount _ _ _ := 1
  payload g _ n := bPay T g n
  amount_pos _ _ _ _ := Nat.one_pos

variable (T : Dev nD → TabArr F)

instance bRd_payload_storable (g : GSem nD τ sig) (r n : ℕ) : BI.Storable (upEmb : UEmb _ 𝕄) ((bRd T).payload g r n) := by
  show BI.Storable upEmb (bPay T g n)
  unfold bPay
  rcases g with ⟨⟨d, _ | c | ⟨c, i⟩⟩, sm⟩ <;> dsimp only <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd T).duties (bcell d c j) 0 = (Finset.univ : Finset (Fin τ.nSub)).image Fin.val := by
  simp [bRd, isBar]
theorem bRd_duties_succ (g : GSem nD τ sig) (r : ℕ) (hr : 1 ≤ r) : (bRd T).duties g r = ∅ :=
  if_neg fun h => absurd h.2 (Nat.ne_of_gt hr)
theorem bRd_mem₀ (d : Dev nD) (c : Fin τ.nSC) (j i : Fin τ.nSub) : i.val ∈ (bRd T).duties (bcell d c j) 0 := by
  rw [bRd_duties₀]; exact Finset.mem_image_of_mem _ (Finset.mem_univ i)
theorem bRd_expect (d : Dev nD) (c : Fin τ.nSC) (j : Fin τ.nSub) : 0 + grid0.bound 1 = (bRd T).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore of SparseCore `c` owe for the barrier: a unit on every subcore's cell there. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every subcore's cell invariant of its SparseCore and that each has reached round 0, its
    duty token in each one's round 0, its own position at the origin of round 0, the credit for its own round's units. -/
def bkit (d : Dev nD) (c : Fin τ.nSC) (i : Fin τ.nSub) : sProp 𝕄 :=
  iprop((∃ κ : GSem nD τ sig → ℕ, bigSep Finset.univ fun j : Fin (grid0.bound 1) =>
      cellInv EB (bRd T) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.Look

end
-- ==== Proof.Steps.lean ====
/-
  The kernel's six kinds of step, at any subcore: an index row's load issued and waited for, a chunk's gather issued and
  waited for, a chunk's write-back issued and waited for. Each takes what the step needs at its values and gives what it
  leaves at its values; a transfer under way is held as one assertion naming what its wait will hand over.
-/
module

public import proofs.«01_k».proof.Proof.Setup

@[expose] public section

noncomputable section

namespace Cert.Proof.Look

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (c : Fin τ.nSC) (j : Fin τ.nSub)

/-! ## What a subcore holds -/

/-- A scratch buffer holding the values `v`. -/
def holds {s : Shape} {e : EltTy} (b : Memref sig .scVector .vmem s e) (v : s.Idx → Elt F e) : sProp 𝕄 :=
  iprop(∃ f : Buf (Elt F) (b.view.loc (V d c j)), ⌜∀ x, b.view.read (Elt F) f x = v x⌝ ∗ (b.view.loc (V d c j) ↦[b.view.set]{fullShare} f))
/-- A scratch buffer at any contents. -/
def spare {s : Shape} {e : EltTy} (b : Memref sig .scVector .vmem s e) : sProp 𝕄 :=
  iprop(∃ f : Buf (Elt F) (b.view.loc (V d c j)), b.view.loc (V d c j) ↦[b.view.set]{fullShare} f)
/-- A semaphore at zero. -/
abbrev zero (sem : DmaSem sig) : sProp 𝕄 := semVal ((V d c j, SemLoc.dma sem) : GSem nD τ sig) 0
/-- What the subcore owes, with its right to wait and the waits it has made so far. -/
def ledger (O : CellTallies nD τ sig (HIx 1)) (W : Waits sig (HIx 1)) : sProp 𝕄 :=
  iprop(Transfers.MayWaits (V d c j) (default : HIx 1) O
    ∗ ∃ W', ⌜∀ p ∈ W', p ∈ W ∨ p.2 = none ∨ p.2 = some (0 : Fin 1)⌝ ∗ owes (V d c j) O W')

theorem holds_spare {s : Shape} {e : EltTy} (b : Memref sig .scVector .vmem s e) (v : s.Idx → Elt F e) :
    (holds d c j b v : sProp 𝕄) ⊢ spare d c j b := by
  unfold holds spare
  iintro ⟨%f, -, H⟩; iexists f; iexact H

variable (X : IdxArr F) (T : Dev nD → TabArr F)

/-- Chunk `n` of the result, written. -/
def done (n : ℕ) : sProp 𝕄 := oLoc d ↦[chunkSet n]{fullShare} (lookup X (T d) : Buf (Elt F) (oLoc d))
/-- Chunk `n` of the result, at any contents. -/
def todo (n : ℕ) : sProp 𝕄 := iprop(∃ f : Buf (Elt F) (oLoc d), oLoc d ↦[chunkSet n]{fullShare} f)
/-- A share of the index array. -/
def idxAt (q : PosShare TreeShare) : sProp 𝕄 := iLoc d ↦{q} (X : Buf (Elt F) (iLoc d))
/-- A share of the SparseCore's copy of the table. -/
def tabAt (q : PosShare TreeShare) : sProp 𝕄 := shLoc d c ↦{q} (T d : Buf (Elt F) (shLoc d c))

/-- Chunk `n`'s indices on their way into `ib`. -/
def idxFlight (sem : DmaSem sig) (ib : Memref sig .scVector .vmem S1x128 .i32) (n : ℕ) (q : PosShare TreeShare) : sProp 𝕄 :=
  iprop(Transfers.Flight countersEmb (V d c j) (.dma sem) (default : HIx 1) ib.view.dmaCredit
      iprop(holds d c j ib (chunkIdx X n) ∗ (iLoc d ↦[rowSet n]{q} (X : Buf (Elt F) (iLoc d))))
    ∗ (iLoc d ↦[Finset.univ \ rowSet n]{q} (X : Buf (Elt F) (iLoc d))))
/-- Chunk `n`'s rows on their way into `rb`, the indices in `ib`. -/
def rowFlight (sem : DmaSem sig) (ib : Memref sig .scVector .vmem S1x128 .i32) (rb : Memref sig .scVector .vmem S128x128 .f32) (n : ℕ)
    (q : PosShare TreeShare) : sProp 𝕄 :=
  Transfers.Flight countersEmb (V d c j) (.dma sem) (default : HIx 1) rb.view.dmaCredit
    iprop(holds d c j rb (chunkRows X (T d) n) ∗ holds d c j ib (chunkIdx X n) ∗ tabAt d c T q)
/-- The credit of one chunk's write-back. -/
abbrev outCredit : ℕ := sig.dmaCredit .scVector (Kind.scVector.table .hbm) (oV).view.buf S128x128 .f32
/-- Chunk `n` on its way from `rb` into the result. -/
def outFlight (sem : DmaSem sig) (rb : Memref sig .scVector .vmem S128x128 .f32) (n : ℕ) : sProp 𝕄 :=
  Transfers.Flight countersEmb (V d c j) (.dma sem) (default : HIx 1) outCredit iprop(done d X T n ∗ spare d c j rb)

variable [FloatOps F]

/-! ## The waits, all alike -/

/-- A wait for a transfer under way: what it delivers, its semaphore at zero. -/
theorem wait_any {α : Type} {Q : α → sProp 𝕄} {k : PUnit.{1} → Prog (TpuEff nD τ sig (Elt F) Λ₀ (.scVector c j)) α}
    {sp sp' : Space} {s s' : Shape} {e e' : EltTy} {κ' : Kind} {sem : DmaSem sig} {N : ℕ} {R : sProp 𝕄} {O : CellTallies nD τ sig (HIx 1)} {W : Waits sig (HIx 1)}
    (src : Memref sig .scVector sp' s' e') (dst : Memref sig κ' sp s e) (hs : src.view.WordExact) (hd : dst.view.WordExact) (hN : dst.view.dmaCredit = N) :
    iprop(Transfers.Flight countersEmb (V d c j) (.dma sem) (default : HIx 1) N R ∗ ledger d c j O W)
      ⊢ iprop((iprop(R ∗ zero d c j sem ∗ ledger d c j O W) -∗ wp frame (wpE (defs₀ (F := F)) 𝒱₀ (V d c j) none) Set.univ (k ⟨⟩) Q)
        -∗ wp frame (wpE (defs₀ (F := F)) 𝒱₀ (V d c j) none) Set.univ ((Prog.lift (TpuEff.waitDma2 sem src dst hs hd) : Prog (TpuEff nD τ sig (Elt F) Λ₀ (.scVector c j)) PUnit) >>= k) Q) := by
  unfold ledger
  iintro ⟨Hf, #Hmw, %W', %hW, HO⟩ Hk
  iapply (Transfers.wp_waitLocalO countersEmb 𝒱₀ (V d c j) none (default : HIx 1) (sem := sem) (srcw := src) (dstw := dst) (hsrc := hs) (hdst := hd) hN) $$ [Hf HO]
  · isplitl [Hf]; · iexact Hf
    isplitl [HO]; · iexact HO
    iapply (Transfers.MayWaits.elim (SemLoc.dma sem)) $$ Hmw
  iintro ⟨HR, Hz, HO⟩
  iapply Hk
  isplitl [HR]; · iexact HR
  isplitl [Hz]; · iexact Hz
  isplitr; · iexact Hmw
  iexists _; isplitr
  swap; · iexact HO
  ipureintro; intro p hp
  rcases Finset.mem_insert.mp hp with hp | hp
  · exact .inr (.inl (hp ▸ rfl))
  · exact hW p hp

/-! ## An index row -/

section Idx

variable {n : ℕ} {q : PosShare TreeShare} {off : Fin 2 → ℕ} {inb : ∀ a, off a + S1x128.size a ≤ S6400x128.size a}
  {sem : DmaSem sig} {ib : Memref sig .scVector .vmem S1x128 .i32}

theorem start_idx {α : Type} {Q : α → sProp 𝕄} {k : PUnit.{1} → Prog (TpuEff nD τ sig (Elt F) Λ₀ (.scVector c j)) α}
    (h : off = ![n, 0]) (h1 : (idxSlice off inb).view.WordExact) (h2 : ib.view.WordExact)
    (h3 : DmaTarget.Typed (nD := nD) (τ := τ) (p := .scVector c j) .hbm (.dma sem) (.here ib)) :
    iprop(idxAt d X q ∗ spare d c j ib ∗ zero d c j sem)
      ⊢ iprop((idxFlight d c j X sem ib n q -∗ wp frame (wpE (defs₀ (F := F)) 𝒱₀ (V d c j) none) Set.univ (k ⟨⟩) Q)
        -∗ wp frame (wpE (defs₀ (F := F)) 𝒱₀ (V d c j) none) Set.univ
            ((Prog.lift (TpuEff.enqueueDma (idxSlice off inb) (.here ib) (.dma sem) h1 h2 h3) : Prog (TpuEff nD τ sig (Elt F) Λ₀ (.scVector c j)) PUnit) >>= k) Q) := by
  unfold idxAt spare idxFlight
  iintro ⟨Hi, ⟨%f, Hf⟩, Hz⟩ Hk
  ihave Hi := (pointsTo_split_subset (ℓ := iLoc d) (q := q) (f := (X : Buf (Elt F) (iLoc d))) (S := Finset.univ) (Finset.subset_univ (rowSet n))).1 $$ Hi
  icases Hi with ⟨Hi, Hr⟩
  have e : rowSet n = (idxSlice off inb).view.set := (set_idxSlice off inb h).symm
  iapply (Transfers.wp_dmaLocal countersEmb 𝒱₀ (V d c j) none (src := idxSlice off inb) (dst := ib) (sm := .dma sem) (q := q)
    (fs := (X : Buf (Elt F) (iLoc d))) (Sd := ib.view.set) (fd := f)
    (default : HIx 1) ib.view.dmaCredit rfl (View.dmaCredit_pos _ (by decide)) (Finset.Subset.refl _)) $$ [Hi Hf Hz]
  · isplitl [Hi]
    · iapply (Entails.of_eq (congrArg (fun S => (iLoc d ↦[S]{q} (X : Buf (Elt F) (iLoc d)) : sProp 𝕄)) e)) $$ Hi
    isplitl [Hf]; · iexact Hf
    iexact Hz
  iintro Hfl
  iapply Hk
  isplitl [Hfl]
  · iapply (Transfers.Flight_mono countersEmb (V d c j) ?_) $$ Hfl
    unfold holds
    iintro ⟨Hd, Hs⟩
    isplitl [Hd]
    · iexists _; isplitr
      swap; · iexact Hd
      ipureintro; intro x
      rw [View.read_write_of_mem (v := ib.view) f _ (Finset.mem_univ x)]
      exact read_idxSlice off inb h X x
    · iapply (Entails.of_eq (congrArg (fun S => (iLoc d ↦[S]{q} (X : Buf (Elt F) (iLoc d)) : sProp 𝕄)) e.symm)) $$ Hs
  · iexact Hr

theorem wait_idx {α : Type} {Q : α → sProp 𝕄} {k : PUnit.{1} → Prog (TpuEff nD τ sig (Elt F) Λ₀ (.scVector c j)) α}
    {O : CellTallies nD τ sig (HIx 1)} {W : Waits sig (HIx 1)} {sp' : Space} {s' : Shape} {e' : EltTy}
    (src : Memref sig .scVector sp' s' e') (h1 : src.view.WordExact) (h2 : ib.view.WordExact) :
    iprop(idxFlight d c j X sem ib n q ∗ ledger d c j O W)
      ⊢ iprop((iprop(holds d c j ib (chunkIdx X n) ∗ idxAt d X q ∗ zero d c j sem ∗ ledger d c j O W) -∗ wp frame (wpE (defs₀ (F := F)) 𝒱₀ (V d c j) none) Set.univ (k ⟨⟩) Q)
        -∗ wp frame (wpE (defs₀ (F := F)) 𝒱₀ (V d c j) none) Set.univ ((Prog.lift (TpuEff.waitDma2 sem src ib h1 h2) : Prog (TpuEff nD τ sig (Elt F) Λ₀ (.scVector c j)) PUnit) >>= k) Q) := by
  unfold idxFlight idxAt
  iintro ⟨⟨Hf, Hr⟩, Hl⟩ Hk
  iapply (wait_any d c j src ib h1 h2 rfl) $$ [Hf Hl]
  · isplitl [Hf] <;> iassumption
  iintro ⟨⟨Hh, Hi⟩, Hz, Hl⟩
  iapply Hk
  isplitl [Hh]; · iexact Hh
  isplitl [Hi Hr]
  · iapply (pointsTo_split_subset (ℓ := iLoc d) (q := q) (f := (X : Buf (Elt F) (iLoc d))) (S := Finset.univ) (Finset.subset_univ (rowSet n))).2
    isplitl [Hi] <;> iassumption
  isplitl [Hz] <;> iassumption

end Idx

/-! ## A chunk's rows -/

section Rows

variable {n : ℕ} {q : PosShare TreeShare} {sem : DmaSem sig} {ib : Memref sig .scVector .vmem S1x128 .i32} {rb : Memref sig .scVector .vmem S128x128 .f32}

/-- The shared copy, and a row of indices as a list, as the gather addresses them. -/
abbrev shWhole : Memref sig .scVector .shared S10000x128 .f32 :=
  (Memref.whole cc0_scratch0 : Memref sig .scVector .shared S10000x128 .f32).slice
    (Rect.unit (s := S10000x128) ![0, 0] S10000x128.size inb_S10000x128_S10000x128_0_0) (fun _ => rfl)
abbrev asList (ib : Memref sig .scVector .vmem S1x128 .i32) : Memref sig .scVector .vmem S128 .i32 :=
  (ib.slice (Rect.unit (s := S1x128) ![0, 0] S1x128.size inb_S1x128_S1x128_0_0) (fun _ => rfl)).squeeze S128 squeezes_S1x128_S128

theorem start_gather {α : Type} {Q : α → sProp 𝕄} {k : PUnit.{1} → Prog (TpuEff nD τ sig (Elt F) Λ₀ (.scVector c j)) α}
    (hX : Ranged X)
    (hN : ∑ i, (rb.slice (S128x128.rowRect gathers_S10000x128_S128x128.axis' i) (S128x128.stride_rowRect gathers_S10000x128_S128x128.axis' i)).view.dmaCredit = rb.view.dmaCredit)
    (h0 : (Proc.scVector c j : Proc τ).kind = .scVector) (h1 : shWhole.view.WordExact) (h2 : EltTy.f32.bits = 32) (h3 : Space.shared = .hbm ∨ Space.shared = .shared)
    (hl : S128.numel = S128x128.size gathers_S10000x128_S128x128.axis') (h4 : S10000x128.StreamRows 0) :
    iprop(holds d c j ib (chunkIdx X n) ∗ spare d c j rb ∗ tabAt d c T q ∗ zero d c j sem)
      ⊢ iprop((rowFlight d c j X T sem ib rb n q -∗ wp frame (wpE (defs₀ (F := F)) 𝒱₀ (V d c j) none) Set.univ (k ⟨⟩) Q)
        -∗ wp frame (wpE (defs₀ (F := F)) 𝒱₀ (V d c j) none) Set.univ ((SparseCore.enqueueIndirectGather h0 shWhole rb gathers_S10000x128_S128x128 (asList ib) hl sem h1 h2 h3 h4 : Prog (TpuEff nD τ sig (Elt F) Λ₀ (.scVector c j)) PUnit) >>= k) Q) := by
  unfold rowFlight holds spare tabAt
  iintro ⟨⟨%fo, %hfo, Ho⟩, ⟨%fd, Hd⟩, Ht, Hz⟩ Hk
  have hidx : ∀ y : S128.Idx, (asList ib).view.read (Elt F) fo y = X (pt n (y 0).val) := fun y => by
    have hy : (y 0).val < 128 := (y 0).isLt
    refine (read_squeeze ib fo y).trans ((hfo _).trans ?_)
    unfold chunkIdx
    rw [pt_one, Nat.mod_eq_of_lt hy]
  have hin : ∀ x, ((asList ib).view.read (Elt F) fo x).toNat < S10000x128.size gathers_S10000x128_S128x128.axis := fun x => by
    rw [hidx]; exact hX _
  iapply (SparseCore.wp_indirectGatherLocal countersEmb 𝒱₀ (V d c j) none (hg := gathers_S10000x128_S128x128) (src := shWhole) (dst := rb) (offs := asList ib)
    (sem := sem) (q := q) (qo := fullShare) (fs := (T d : Buf (Elt F) (shLoc d c))) (fd := fd) (fo := fo)
    (default : HIx 1) rb.view.dmaCredit hN (by decide) hin) $$ [Ho Hd Ht Hz]
  · isplitl [Ht]
    · iapply (Entails.of_eq (congrArg (fun S => (shLoc d c ↦[S]{q} (T d : Buf (Elt F) (shLoc d c)) : sProp 𝕄)) set_shWhole.symm)) $$ Ht
    isplitl [Hd]; · iexact Hd
    isplitl [Ho]
    · iapply (Entails.of_eq (congrArg (fun S => (ib.view.loc (V d c j) ↦[S]{fullShare} fo : sProp 𝕄)) (set_squeeze ib).symm)) $$ Ho
    iexact Hz
  iintro Hfl
  iapply Hk
  iapply (Transfers.Flight_mono countersEmb (V d c j) ?_) $$ Hfl
  iintro ⟨Hd, Ht, Ho⟩
  isplitl [Hd]
  · iexists _; isplitr
    swap; · iexact Hd
    ipureintro; intro x
    rw [View.read_write_of_mem (v := rb.view) fd _ (Finset.mem_univ x)]
    exact gather_rows X (T d) n _ hidx _ (read_shWhole (T d)) _ _ x
  isplitl [Ho]
  · iexists fo; isplitr; · ipureintro; exact hfo
    iapply (Entails.of_eq (congrArg (fun S => (ib.view.loc (V d c j) ↦[S]{fullShare} fo : sProp 𝕄)) (set_squeeze ib))) $$ Ho
  · iapply (show (shWhole.view.loc (V d c j) ↦[shWhole.view.set]{q} (T d : Buf (Elt F) (shLoc d c)) : sProp 𝕄) ⊢ (shLoc d c ↦{q} (T d : Buf (Elt F) (shLoc d c))) from
      Entails.of_eq (congrArg (fun S => (shLoc d c ↦[S]{q} (T d : Buf (Elt F) (shLoc d c)) : sProp 𝕄)) set_shWhole)) $$ Ht

theorem wait_gather {α : Type} {Q : α → sProp 𝕄} {k : PUnit.{1} → Prog (TpuEff nD τ sig (Elt F) Λ₀ (.scVector c j)) α}
    {O : CellTallies nD τ sig (HIx 1)} {W : Waits sig (HIx 1)} (h1 : shWhole.view.WordExact) (h2 : rb.view.WordExact) :
    iprop(rowFlight d c j X T sem ib rb n q ∗ ledger d c j O W)
      ⊢ iprop((iprop((holds d c j rb (chunkRows X (T d) n) ∗ holds d c j ib (chunkIdx X n) ∗ tabAt d c T q) ∗ zero d c j sem ∗ ledger d c j O W) -∗ wp frame (wpE (defs₀ (F := F)) 𝒱₀ (V d c j) none) Set.univ (k ⟨⟩) Q)
        -∗ wp frame (wpE (defs₀ (F := F)) 𝒱₀ (V d c j) none) Set.univ ((SparseCore.waitIndirectGather sem shWhole rb h1 h2 : Prog (TpuEff nD τ sig (Elt F) Λ₀ (.scVector c j)) PUnit) >>= k) Q) := by
  unfold rowFlight
  exact wait_any d c j shWhole rb h1 h2 rfl

end Rows

/-! ## A chunk's write-back -/

section Out

variable {n : ℕ} {off : Fin 2 → ℕ} {inb : ∀ a, off a + S128x128.size a ≤ S819200x128.size a} {sem : DmaSem sig} {rb : Memref sig .scVector .vmem S128x128 .f32}

theorem start_write {α : Type} {Q : α → sProp 𝕄} {k : PUnit.{1} → Prog (TpuEff nD τ sig (Elt F) Λ₀ (.scVector c j)) α}
    (h : off = ![128 * n, 0]) (h1 : rb.view.WordExact) (h2 : (outSlice off inb).view.WordExact)
    (h3 : DmaTarget.Typed (nD := nD) (τ := τ) (p := .scVector c j) .vmem (.dma sem) (.here (outSlice off inb))) :
    iprop(holds d c j rb (chunkRows X (T d) n) ∗ todo d n ∗ zero d c j sem)
      ⊢ iprop((outFlight d c j X T sem rb n -∗ wp frame (wpE (defs₀ (F := F)) 𝒱₀ (V d c j) none) Set.univ (k ⟨⟩) Q)
        -∗ wp frame (wpE (defs₀ (F := F)) 𝒱₀ (V d c j) none) Set.univ ((Prog.lift (TpuEff.enqueueDma rb (.here (outSlice off inb)) (.dma sem) h1 h2 h3) : Prog (TpuEff nD τ sig (Elt F) Λ₀ (.scVector c j)) PUnit) >>= k) Q) := by
  unfold holds todo outFlight
  iintro ⟨⟨%f, %hf, Hf⟩, ⟨%g, Hg⟩, Hz⟩ Hk
  have e : chunkSet n = (outSlice off inb).view.set := (set_outSlice off inb h).symm
  iapply (Transfers.wp_dmaLocal countersEmb 𝒱₀ (V d c j) none (src := rb) (dst := outSlice off inb) (sm := .dma sem) (q := fullShare)
    (fs := f) (Sd := chunkSet n) (fd := (g : Buf (Elt F) (oLoc d)))
    (default : HIx 1) outCredit rfl (View.dmaCredit_pos (outSlice off inb).view (by decide)) (e ▸ Finset.Subset.refl _)) $$ [Hf Hg Hz]
  · isplitl [Hf]; · iexact Hf
    isplitl [Hg]; · iexact Hg
    iexact Hz
  iintro Hfl
  iapply Hk
  iapply (Transfers.Flight_mono countersEmb (V d c j) ?_) $$ Hfl
  unfold done spare
  iintro ⟨Hd, Hs⟩
  isplitl [Hd]
  · iapply (Entails.of_eq (pointsTo_congr (ℓ := oLoc d) (I := chunkSet n) (q := fullShare) (write_outSlice off inb h X (T d) g _ hf))) $$ Hd
  · iexists f; iexact Hs

theorem wait_write {α : Type} {Q : α → sProp 𝕄} {k : PUnit.{1} → Prog (TpuEff nD τ sig (Elt F) Λ₀ (.scVector c j)) α}
    {O : CellTallies nD τ sig (HIx 1)} {W : Waits sig (HIx 1)} (h1 : rb.view.WordExact) (h2 : (outSlice off inb).view.WordExact) :
    iprop(outFlight d c j X T sem rb n ∗ ledger d c j O W)
      ⊢ iprop((iprop((done d X T n ∗ spare d c j rb) ∗ zero d c j sem ∗ ledger d c j O W) -∗ wp frame (wpE (defs₀ (F := F)) 𝒱₀ (V d c j) none) Set.univ (k ⟨⟩) Q)
        -∗ wp frame (wpE (defs₀ (F := F)) 𝒱₀ (V d c j) none) Set.univ ((Prog.lift (TpuEff.waitDma2 sem rb (outSlice off inb) h1 h2) : Prog (TpuEff nD τ sig (Elt F) Λ₀ (.scVector c j)) PUnit) >>= k) Q) := by
  unfold outFlight
  exact wait_any d c j rb (outSlice off inb) h1 h2 rfl

end Out

end Cert.Proof.Look

end
-- ==== Proof.Trip.lean ====
/-
  One trip of the kernel's loop, written as a line of steps: each of its guarded steps is guarded on its own, and the
  guards that hold on every trip are dropped.
-/
module

public import proofs.«01_k».proof.Proof.Steps

@[expose] public section

noncomputable section

namespace Cert.Proof.Look

open Cert.KernelIdeal Cert.KernelIdeal.Gen
open Idealize.ShloMosaic
open Idealize.SL Idealize.SL.Sem

variable {F : FTy → Type} [FloatOps F]

/-! ## The guards -/

theorem cond2 : ∀ t, k0_cond2 t = 1#1 := by decide +kernel
theorem cond4 : ∀ t, k0_cond4 t = 1#1 := by decide +kernel
theorem cond5 : ∀ t, k0_cond5 t = 1#1 := by decide +kernel
theorem cond7 : ∀ t, k0_cond7 t = 1#1 := by decide +kernel
theorem cond8 : ∀ t, k0_cond8 t = 1#1 := by decide +kernel
theorem cond9 : ∀ t, k0_cond9 t = 1#1 := by decide +kernel
theorem cond3 : ∀ t : Fin k0_t1_loop.trips, k0_cond3 t = 1#1 ↔ t.val ≠ 0 := by decide +kernel
theorem cond6 : ∀ t : Fin k0_t1_loop.trips, k0_cond6 t = 1#1 ↔ t.val ≠ 0 := by decide +kernel
theorem cond10 : ∀ t : Fin k0_t1_loop.trips, k0_cond10 t = 1#1 ↔ t.val < 65 := by decide +kernel
theorem trips_eq : k0_t1_loop.trips = 66 := by decide +kernel

/-! ## The steps -/

/-- A subcore's program. -/
abbrev Task (F : FTy → Type) (L : grid0.Coords) : Type 1 :=
  Prog (TpuEff nD τ sig (Elt F) Λ₀ (.scVector ((L 0).castLE hcore0) ((L 1).castLE hsub0))) PUnit.{1}

variable (L : grid0.Coords)

/-- The load of an index row, and the wait for it. -/
abbrev getIdx (off : Fin 2 → ℕ) (inb : ∀ a, off a + S1x128.size a ≤ S6400x128.size a) (ib : Memref sig .scVector .vmem S1x128 .i32)
    (hib : ib.view.WordExact) (sem : DmaSem sig) : Task F L :=
  Prog.lift (.enqueueDma (idxSlice off inb) (.here ib) (.dma sem) (View.wordExact_bits rfl) hib ⟨Or.inl rfl, trivial⟩)
abbrev gotIdx (off : Fin 2 → ℕ) (inb : ∀ a, off a + S1x128.size a ≤ S6400x128.size a) (ib : Memref sig .scVector .vmem S1x128 .i32)
    (hib : ib.view.WordExact) (sem : DmaSem sig) : Task F L :=
  Prog.lift (.waitDma2 sem (idxSlice off inb) ib (View.wordExact_bits rfl) hib)
/-- The gather of a chunk's rows, and the wait for it. -/
abbrev getRows (ib : Memref sig .scVector .vmem S1x128 .i32) (rb : Memref sig .scVector .vmem S128x128 .f32) (sem : DmaSem sig) : Task F L :=
  SparseCore.enqueueIndirectGather rfl shWhole rb gathers_S10000x128_S128x128 (asList ib) rfl sem (View.wordExact_bits rfl) rfl (Or.inr rfl)
abbrev gotRows (rb : Memref sig .scVector .vmem S128x128 .f32) (hrb : rb.view.WordExact) (sem : DmaSem sig) : Task F L :=
  SparseCore.waitIndirectGather sem shWhole rb (View.wordExact_bits rfl) hrb
/-- The write of a chunk's rows into the result, and the wait for it. -/
abbrev putRows (off : Fin 2 → ℕ) (inb : ∀ a, off a + S128x128.size a ≤ S819200x128.size a) (rb : Memref sig .scVector .vmem S128x128 .f32)
    (hrb : rb.view.WordExact) (sem : DmaSem sig) : Task F L :=
  Prog.lift (.enqueueDma rb (.here (outSlice off inb)) (.dma sem) hrb (View.wordExact_bits rfl) ⟨Or.inl rfl, trivial⟩)
abbrev sentRows (off : Fin 2 → ℕ) (inb : ∀ a, off a + S128x128.size a ≤ S819200x128.size a) (rb : Memref sig .scVector .vmem S128x128 .f32)
    (hrb : rb.view.WordExact) (sem : DmaSem sig) : Task F L :=
  Prog.lift (.waitDma2 sem rb (outSlice off inb) hrb (View.wordExact_bits rfl))

variable (t : Fin k0_t1_loop.trips)

/-- The waits that free the second and the third buffer pair: none on the first trip. -/
def free1 : Task F L :=
  if h : k0_cond3 t = 1#1 then do
    sentRows L (k0_off3 L t) (k0_off3_inb L t (cond2 t) h) rb1 (Memref.isWhole_whole _).wordExact cc0_scratch14.sem
    gotIdx L (k0_off4 L t) (k0_off4_inb L t (cond2 t) h) ib1 (Memref.isWhole_whole _).wordExact cc0_scratch11.sem
  else pure ⟨⟩
def free2 : Task F L :=
  if h : k0_cond6 t = 1#1 then do
    sentRows L (k0_off7 L t) (k0_off7_inb L t (cond5 t) h) rb2 (Memref.isWhole_whole _).wordExact cc0_scratch15.sem
    gotIdx L (k0_off8 L t) (k0_off8_inb L t (cond5 t) h) ib2 (Memref.isWhole_whole _).wordExact cc0_scratch12.sem
  else pure ⟨⟩
/-- The third pair's next index load: none on the last trip. -/
def next2 : Task F L :=
  if h : k0_cond10 t = 1#1 then
    getIdx L (k0_off12 L t) (k0_off12_inb L t h) ib2 (Memref.isWhole_whole _).wordExact cc0_scratch12.sem
  else pure ⟨⟩

/-- The trip. -/
def trip : Task F L := do
  free1 L t
  getRows L ib1 rb1 cc0_scratch8.sem
  gotRows L rb0 (Memref.isWhole_whole _).wordExact cc0_scratch7.sem
  putRows L (k0_off5 L t 0#32) (k0_off5_inb L t 0) rb0 (Memref.isWhole_whole _).wordExact cc0_scratch13.sem
  getIdx L (k0_off6 L t) (k0_off6_inb L t (cond4 t)) ib0 (Memref.isWhole_whole _).wordExact cc0_scratch10.sem
  free2 L t
  getRows L ib2 rb2 cc0_scratch9.sem
  gotRows L rb1 (Memref.isWhole_whole _).wordExact cc0_scratch8.sem
  putRows L (k0_off5 L t 1#32) (k0_off5_inb L t 1) rb1 (Memref.isWhole_whole _).wordExact cc0_scratch14.sem
  getIdx L (k0_off9 L t) (k0_off9_inb L t (cond7 t)) ib1 (Memref.isWhole_whole _).wordExact cc0_scratch11.sem
  sentRows L (k0_off10 L t) (k0_off10_inb L t (cond8 t) (cond9 t)) rb0 (Memref.isWhole_whole _).wordExact cc0_scratch13.sem
  gotIdx L (k0_off11 L t) (k0_off11_inb L t (cond8 t) (cond9 t)) ib0 (Memref.isWhole_whole _).wordExact cc0_scratch10.sem
  getRows L ib0 rb0 cc0_scratch7.sem
  gotRows L rb2 (Memref.isWhole_whole _).wordExact cc0_scratch9.sem
  putRows L (k0_off5 L t 2#32) (k0_off5_inb L t 2) rb2 (Memref.isWhole_whole _).wordExact cc0_scratch15.sem
  next2 L t
  pure ⟨⟩

set_option maxHeartbeats 4000000 in
set_option maxRecDepth 65536 in
theorem body_eq (v2 v8 : BitVec 32) (u : Unit) :
    k0_t1_body (F := F) L tV (Memref.isWhole_whole _) iV (Memref.isWhole_whole _) oV (Memref.isWhole_whole _) shV (Memref.isWhole_whole _)
      ib0 (Memref.isWhole_whole _) ib1 (Memref.isWhole_whole _) ib2 (Memref.isWhole_whole _) rb0 (Memref.isWhole_whole _) rb1 (Memref.isWhole_whole _) rb2 (Memref.isWhole_whole _)
      cc0_scratch7 cc0_scratch8 cc0_scratch9 cc0_scratch10 cc0_scratch11 cc0_scratch12 cc0_scratch13 cc0_scratch14 cc0_scratch15
      cc0_scoped0 cc0_scoped1 cc0_scoped2 cc0_scoped3 cc0_scoped4 v2 v8 t u = trip L t := by
  unfold k0_t1_body trip free1 free2 next2
  simp only [k0_part1_eq_skeleton]
  unfold k0_part1_skel
  by_cases h3 : k0_cond3 t = 1#1 <;> by_cases h6 : k0_cond6 t = 1#1 <;> by_cases h10 : k0_cond10 t = 1#1 <;>
  · simp only [cond2 t, cond4 t, cond5 t, cond7 t, cond8 t, cond9 t, h3, h6, h10, ↓reduceDIte]
    rfl

end Cert.Proof.Look

end
-- ==== Proof.Loop.lean ====
/-
  The kernel's loop. Before trip `t` the first buffer pair's gather of chunk `3 t` is under way; the other two pairs are
  free with their indices in place (first trip), or are sending their rows of the trip before with their next indices on
  the way. Trip `t` takes this to the same state at `t + 1`, and the whole loop takes the first trip's state to the last's.
-/
module

public import proofs.«01_k».proof.Proof.Trip

@[expose] public section

noncomputable section

namespace Cert.Proof.Look

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

variable (d : Dev nD) (L : grid0.Coords) (X : IdxArr F) (T : Dev nD → TabArr F)

/-- The first chunk of the subcore. -/
abbrev base : ℕ := chunk0 (L 0).val (L 1).val
/-- The subcore's share of the index array, and of the shared copy, for each buffer pair. -/
abbrev qi (k : Fin 3) : PosShare TreeShare := slot (qTile (cV L) (jV L)) k
abbrev qs (k : Fin 3) : PosShare TreeShare := slot (qSh (jV L)) k

/-! ## The chunks written and those to write -/

def dones (m : ℕ) : sProp 𝕄 := bigSep (Finset.range m) fun i => done d X T (base L + i)
def todos (m : ℕ) : sProp 𝕄 := bigSep (Finset.Ico m 200) fun i => (todo d (base L + i) : sProp 𝕄)

theorem dones_succ (m : ℕ) : iprop(dones d L X T m ∗ done d X T (base L + m)) ⊢ dones d L X T (m + 1) := by
  unfold dones
  rw [Finset.range_add_one, SparseCore.bigSep_insert' Finset.notMem_range_self]
  iintro ⟨H, H'⟩
  isplitl [H'] <;> iassumption

theorem todos_next {m : ℕ} (h : m < 200) : (todos d L m : sProp 𝕄) ⊢ iprop(todo d (base L + m) ∗ todos d L (m + 1)) := by
  unfold todos
  rw [show Finset.Ico m 200 = insert m (Finset.Ico (m + 1) 200) from by ext x; simp only [Finset.mem_Ico, Finset.mem_insert]; omega,
    SparseCore.bigSep_insert' (by simp)]

/-! ## The buffer pairs between steps -/

/-- A pair free, its indices (of chunk `n`) in place. -/
def ready (ib : Memref sig .scVector .vmem S1x128 .i32) (rb : Memref sig .scVector .vmem S128x128 .f32) (isem wsem : DmaSem sig) (q : PosShare TreeShare) (n : ℕ) : sProp 𝕄 :=
  iprop(holds d (cV L) (jV L) ib (chunkIdx X n) ∗ spare d (cV L) (jV L) rb ∗ zero d (cV L) (jV L) isem ∗ zero d (cV L) (jV L) wsem ∗ idxAt d X q)

/-- The second pair before trip `t`. -/
def pair1 (t : ℕ) : sProp 𝕄 :=
  if t = 0 then ready d L X ib1 rb1 cc0_scratch11.sem cc0_scratch14.sem (qi L 1) (base L + 1)
  else iprop(outFlight d (cV L) (jV L) X T cc0_scratch14.sem rb1 (base L + (3 * t - 2))
    ∗ idxFlight d (cV L) (jV L) X cc0_scratch11.sem ib1 (base L + (3 * t + 1)) (qi L 1))
/-- The third pair before trip `t` (before the 66th there is no next chunk). -/
def pair2 (t : ℕ) : sProp 𝕄 :=
  if t = 0 then ready d L X ib2 rb2 cc0_scratch12.sem cc0_scratch15.sem (qi L 2) (base L + 2)
  else iprop(outFlight d (cV L) (jV L) X T cc0_scratch15.sem rb2 (base L + (3 * t - 1))
    ∗ if t < 66 then idxFlight d (cV L) (jV L) X cc0_scratch12.sem ib2 (base L + (3 * t + 2)) (qi L 2)
      else iprop(idxAt d X (qi L 2) ∗ spare d (cV L) (jV L) ib2 ∗ zero d (cV L) (jV L) cc0_scratch12.sem))

variable (O : CellTallies nD τ sig (HIx 1)) (W : Waits sig (HIx 1))

/-- The subcore before trip `t`. -/
def Inv (t : ℕ) : sProp 𝕄 :=
  iprop(rowFlight d (cV L) (jV L) X T cc0_scratch7.sem ib0 rb0 (base L + 3 * t) (qs L 0)
    ∗ zero d (cV L) (jV L) cc0_scratch10.sem ∗ zero d (cV L) (jV L) cc0_scratch13.sem ∗ idxAt d X (qi L 0)
    ∗ pair1 d L X T t ∗ tabAt d (cV L) T (qs L 1) ∗ zero d (cV L) (jV L) cc0_scratch8.sem
    ∗ pair2 d L X T t ∗ tabAt d (cV L) T (qs L 2) ∗ zero d (cV L) (jV L) cc0_scratch9.sem
    ∗ dones d L X T (3 * t - 2) ∗ todos d L (3 * t) ∗ ledger d (cV L) (jV L) O W)

variable [FloatOps F]

/-! ## The guarded steps -/

theorem free1_step {α : Type} {Q : α → sProp 𝕄} {k : PUnit.{1} → Prog (TpuEff nD τ sig (Elt F) Λ₀ (.scVector (cV L) (jV L))) α}
    (t : Fin k0_t1_loop.trips) :
    iprop(pair1 d L X T t.val ∗ dones d L X T (3 * t.val - 2) ∗ ledger d (cV L) (jV L) O W)
      ⊢ iprop((iprop(ready d L X ib1 rb1 cc0_scratch11.sem cc0_scratch14.sem (qi L 1) (base L + (3 * t.val + 1)) ∗ dones d L X T (3 * t.val - 1) ∗ ledger d (cV L) (jV L) O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (free1 L t >>= k) Q) := by
  unfold pair1 free1
  by_cases h0 : t.val = 0
  · have h3 : ¬k0_cond3 t = 1#1 := fun h => (cond3 t).mp h h0
    simp only [h0, h3, ↓reduceDIte, ↓reduceIte]
    iintro H Hk
    iapply Hk; iexact H
  · have h3 : k0_cond3 t = 1#1 := (cond3 t).mpr h0
    simp only [h0, h3, ↓reduceDIte, ↓reduceIte, bind_assoc]
    iintro ⟨⟨Hout, Hidx⟩, Hd, Hl⟩ Hk
    iapply (wait_write d (cV L) (jV L) X T _ _) $$ [Hout Hl]
    · isplitl [Hout] <;> iassumption
    iintro ⟨⟨Hn, Hs⟩, Hw, Hl⟩
    iapply (wait_idx d (cV L) (jV L) X _ _ _) $$ [Hidx Hl]
    · isplitl [Hidx] <;> iassumption
    iintro ⟨Hh, Hi, Hz, Hl⟩
    iapply Hk
    isplitl [Hh Hs Hz Hw Hi]
    · unfold ready
      isplitl [Hh]; · iexact Hh
      isplitl [Hs]; · iexact Hs
      isplitl [Hz]; · iexact Hz
      isplitl [Hw] <;> iassumption
    isplitl [Hd Hn]
    · iapply (Entails.of_eq (show dones d L X T (3 * t.val - 2 + 1) = dones d L X T (3 * t.val - 1) from by rw [show 3 * t.val - 2 + 1 = 3 * t.val - 1 by omega]))
      iapply (dones_succ d L X T _)
      isplitl [Hd] <;> iassumption
    iexact Hl

theorem free2_step {α : Type} {Q : α → sProp 𝕄} {k : PUnit.{1} → Prog (TpuEff nD τ sig (Elt F) Λ₀ (.scVector (cV L) (jV L))) α}
    (t : Fin k0_t1_loop.trips) (ht : t.val < 66) :
    iprop(pair2 d L X T t.val ∗ dones d L X T (3 * t.val - 1) ∗ ledger d (cV L) (jV L) O W)
      ⊢ iprop((iprop(ready d L X ib2 rb2 cc0_scratch12.sem cc0_scratch15.sem (qi L 2) (base L + (3 * t.val + 2)) ∗ dones d L X T (3 * t.val) ∗ ledger d (cV L) (jV L) O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (free2 L t >>= k) Q) := by
  unfold pair2 free2
  by_cases h0 : t.val = 0
  · have h6 : ¬k0_cond6 t = 1#1 := fun h => (cond6 t).mp h h0
    simp only [h0, h6, ↓reduceDIte, ↓reduceIte]
    iintro H Hk
    iapply Hk; iexact H
  · have h6 : k0_cond6 t = 1#1 := (cond6 t).mpr h0
    simp only [h0, h6, ht, ↓reduceDIte, ↓reduceIte, bind_assoc]
    iintro ⟨⟨Hout, Hidx⟩, Hd, Hl⟩ Hk
    iapply (wait_write d (cV L) (jV L) X T _ _) $$ [Hout Hl]
    · isplitl [Hout] <;> iassumption
    iintro ⟨⟨Hn, Hs⟩, Hw, Hl⟩
    iapply (wait_idx d (cV L) (jV L) X _ _ _) $$ [Hidx Hl]
    · isplitl [Hidx] <;> iassumption
    iintro ⟨Hh, Hi, Hz, Hl⟩
    iapply Hk
    isplitl [Hh Hs Hz Hw Hi]
    · unfold ready
      isplitl [Hh]; · iexact Hh
      isplitl [Hs]; · iexact Hs
      isplitl [Hz]; · iexact Hz
      isplitl [Hw] <;> iassumption
    isplitl [Hd Hn]
    · iapply (Entails.of_eq (show dones d L X T (3 * t.val - 1 + 1) = dones d L X T (3 * t.val) from by rw [show 3 * t.val - 1 + 1 = 3 * t.val by omega]))
      iapply (dones_succ d L X T _)
      isplitl [Hd] <;> iassumption
    iexact Hl

theorem vec2 {a b : ℕ} (h : a = b) : (![a, 0] : Fin 2 → ℕ) = ![b, 0] := by rw [h]

theorem next2_step {α : Type} {Q : α → sProp 𝕄} {k : PUnit.{1} → Prog (TpuEff nD τ sig (Elt F) Λ₀ (.scVector (cV L) (jV L))) α}
    (t : Fin k0_t1_loop.trips) :
    iprop(idxAt d X (qi L 2) ∗ spare d (cV L) (jV L) ib2 ∗ zero d (cV L) (jV L) cc0_scratch12.sem)
      ⊢ iprop(((if t.val + 1 < 66 then idxFlight d (cV L) (jV L) X cc0_scratch12.sem ib2 (base L + (3 * (t.val + 1) + 2)) (qi L 2)
            else iprop(idxAt d X (qi L 2) ∗ spare d (cV L) (jV L) ib2 ∗ zero d (cV L) (jV L) cc0_scratch12.sem))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (next2 L t >>= k) Q) := by
  unfold next2
  obtain h | h : t.val < 65 ∨ ¬t.val < 65 := em _
  · have h' : t.val + 1 < 66 := Nat.succ_lt_succ h
    rw [dif_pos ((cond10 t).mpr h), if_pos h']
    have e : k0_off12 L t = ![base L + (3 * (t.val + 1) + 2), 0] :=
      (k0_off12_eq L t).trans (vec2 (by show _ = 400 * (L 1).val + 200 * (L 0).val + _; omega))
    iintro H Hk
    iapply (start_idx d (cV L) (jV L) X (n := base L + (3 * (t.val + 1) + 2)) e _ _ _) $$ [H]
    · iexact H
    iexact Hk
  · have h' : ¬t.val + 1 < 66 := fun e => h (Nat.lt_of_succ_lt_succ e)
    rw [dif_neg (fun e => h ((cond10 t).mp e)), if_neg h']
    iintro H Hk
    iapply Hk; iexact H

/-! ## The trip -/

set_option maxHeartbeats 4000000 in
theorem trip_step (hX : Ranged X) (t : Fin k0_t1_loop.trips) :
    Inv d L X T O W t.val ⊢ wp frame (wpE (defs₀ (F := F)) 𝒱₀ (V d (cV L) (jV L)) none) Set.univ (trip L t) fun _ => Inv d L X T O W (t.val + 1) := by
  have ht : t.val < 66 := lt_of_lt_of_eq t.isLt trips_eq
  have hN : ∀ rb ∈ [rb0, rb1, rb2], ∑ i, (rb.slice (S128x128.rowRect gathers_S10000x128_S128x128.axis' i) (S128x128.stride_rowRect gathers_S10000x128_S128x128.axis' i)).view.dmaCredit
      = rb.view.dmaCredit := by decide
  unfold Inv trip
  iintro ⟨Hrow0, Hzi0, Hzw0, Hi0, Hp1, Ht1, Hg1, Hp2, Ht2, Hg2, Hdone, Htodo, Hl⟩
  -- the second pair's gather
  iapply (free1_step d L X T O W t) $$ [Hp1 Hdone Hl]
  · isplitl [Hp1]; · iexact Hp1
    isplitl [Hdone] <;> iassumption
  iintro ⟨Hr1, Hdone, Hl⟩
  unfold ready
  icases Hr1 with ⟨Hib1, Hrb1, Hzi1, Hzw1, Hi1⟩
  iapply (start_gather d (cV L) (jV L) X T hX (hN rb1 (by simp)) _ _ _ _ _ _) $$ [Hib1 Hrb1 Ht1 Hg1]
  · isplitl [Hib1]; · iexact Hib1
    isplitl [Hrb1]; · iexact Hrb1
    isplitl [Ht1] <;> iassumption
  iintro Hrow1
  -- the first pair's rows sent, its next indices asked for
  iapply (wait_gather d (cV L) (jV L) X T _ _) $$ [Hrow0 Hl]
  · isplitl [Hrow0] <;> iassumption
  iintro ⟨⟨Hrb0, Hib0, Ht0⟩, Hg0, Hl⟩
  ihave Htodo := (todos_next d L (by omega)) $$ Htodo
  icases Htodo with ⟨Hn, Htodo⟩
  iapply (start_write d (cV L) (jV L) X T (n := base L + 3 * t.val)
    ((k0_off5_eq L t 0).trans (vec2 (by show _ + 128 * 0 = 128 * (400 * (L 1).val + 200 * (L 0).val + _); omega))) _ _ _) $$ [Hrb0 Hn Hzw0]
  · isplitl [Hrb0]; · iexact Hrb0
    isplitl [Hn] <;> iassumption
  iintro Hout0
  ihave Hib0 := (holds_spare d (cV L) (jV L) ib0 _) $$ Hib0
  iapply (start_idx d (cV L) (jV L) X (n := base L + 3 * (t.val + 1))
    ((k0_off6_eq L t).trans (vec2 (by show _ = 400 * (L 1).val + 200 * (L 0).val + _; omega))) _ _ _) $$ [Hi0 Hib0 Hzi0]
  · isplitl [Hi0]; · iexact Hi0
    isplitl [Hib0] <;> iassumption
  iintro Hidx0
  -- the third pair's gather
  iapply (free2_step d L X T O W t ht) $$ [Hp2 Hdone Hl]
  · isplitl [Hp2]; · iexact Hp2
    isplitl [Hdone] <;> iassumption
  iintro ⟨Hr2, Hdone, Hl⟩
  unfold ready
  icases Hr2 with ⟨Hib2, Hrb2, Hzi2, Hzw2, Hi2⟩
  iapply (start_gather d (cV L) (jV L) X T hX (hN rb2 (by simp)) _ _ _ _ _ _) $$ [Hib2 Hrb2 Ht2 Hg2]
  · isplitl [Hib2]; · iexact Hib2
    isplitl [Hrb2]; · iexact Hrb2
    isplitl [Ht2] <;> iassumption
  iintro Hrow2
  -- the second pair's rows sent, its next indices asked for
  iapply (wait_gather d (cV L) (jV L) X T _ _) $$ [Hrow1 Hl]
  · isplitl [Hrow1] <;> iassumption
  iintro ⟨⟨Hrb1, Hib1, Ht1⟩, Hg1, Hl⟩
  ihave Htodo := (todos_next d L (by omega)) $$ Htodo
  icases Htodo with ⟨Hn, Htodo⟩
  iapply (start_write d (cV L) (jV L) X T (n := base L + (3 * t.val + 1))
    ((k0_off5_eq L t 1).trans (vec2 (by show _ + 128 * 1 = 128 * (400 * (L 1).val + 200 * (L 0).val + _); omega))) _ _ _) $$ [Hrb1 Hn Hzw1]
  · isplitl [Hrb1]; · iexact Hrb1
    isplitl [Hn] <;> iassumption
  iintro Hout1
  ihave Hib1 := (holds_spare d (cV L) (jV L) ib1 _) $$ Hib1
  iapply (start_idx d (cV L) (jV L) X (n := base L + (3 * (t.val + 1) + 1))
    ((k0_off9_eq L t).trans (vec2 (by show _ = 400 * (L 1).val + 200 * (L 0).val + _; omega))) _ _ _) $$ [Hi1 Hib1 Hzi1]
  · isplitl [Hi1]; · iexact Hi1
    isplitl [Hib1] <;> iassumption
  iintro Hidx1
  -- the first pair free again, its next gather
  iapply (wait_write d (cV L) (jV L) X T _ _) $$ [Hout0 Hl]
  · isplitl [Hout0] <;> iassumption
  iintro ⟨⟨Hn, Hrb0⟩, Hzw0, Hl⟩
  ihave Hdone := (dones_succ d L X T (3 * t.val)) $$ [Hdone Hn]
  · isplitl [Hdone] <;> iassumption
  iapply (wait_idx d (cV L) (jV L) X _ _ _) $$ [Hidx0 Hl]
  · isplitl [Hidx0] <;> iassumption
  iintro ⟨Hib0, Hi0, Hzi0, Hl⟩
  iapply (start_gather d (cV L) (jV L) X T hX (hN rb0 (by simp)) _ _ _ _ _ _) $$ [Hib0 Hrb0 Ht0 Hg0]
  · isplitl [Hib0]; · iexact Hib0
    isplitl [Hrb0]; · iexact Hrb0
    isplitl [Ht0] <;> iassumption
  iintro Hrow0
  -- the third pair's rows sent, its next indices asked for
  iapply (wait_gather d (cV L) (jV L) X T _ _) $$ [Hrow2 Hl]
  · isplitl [Hrow2] <;> iassumption
  iintro ⟨⟨Hrb2, Hib2, Ht2⟩, Hg2, Hl⟩
  ihave Htodo := (todos_next d L (by omega)) $$ Htodo
  icases Htodo with ⟨Hn, Htodo⟩
  iapply (start_write d (cV L) (jV L) X T (n := base L + (3 * t.val + 1 + 1))
    ((k0_off5_eq L t 2).trans (vec2 (by show _ + 128 * 2 = 128 * (400 * (L 1).val + 200 * (L 0).val + _); omega))) _ _ _) $$ [Hrb2 Hn Hzw2]
  · isplitl [Hrb2]; · iexact Hrb2
    isplitl [Hn] <;> iassumption
  iintro Hout2
  ihave Hib2 := (holds_spare d (cV L) (jV L) ib2 _) $$ Hib2
  iapply (next2_step d L X t) $$ [Hi2 Hib2 Hzi2]
  · isplitl [Hi2]; · iexact Hi2
    isplitl [Hib2] <;> iassumption
  iintro Hidx2
  sl_step
  unfold pair1 pair2
  rw [if_neg (Nat.succ_ne_zero t.val), if_neg (Nat.succ_ne_zero t.val), show 3 * (t.val + 1) - 2 = 3 * t.val + 1 by omega, show 3 * (t.val + 1) - 1 = 3 * t.val + 1 + 1 by omega]
  isplitl [Hrow0]; · iexact Hrow0
  isplitl [Hzi0]; · iexact Hzi0
  isplitl [Hzw0]; · iexact Hzw0
  isplitl [Hi0]; · iexact Hi0
  isplitl [Hout1 Hidx1]; · isplitl [Hout1] <;> iassumption
  isplitl [Ht1]; · iexact Ht1
  isplitl [Hg1]; · iexact Hg1
  isplitl [Hout2 Hidx2]; · isplitl [Hout2] <;> iassumption
  isplitl [Ht2]; · iexact Ht2
  isplitl [Hg2]; · iexact Hg2
  isplitl [Hdone]; · iexact Hdone
  isplitl [Htodo]; · iexact Htodo
  iexact Hl

end Cert.Proof.Look

end
-- ==== Proof.Task.lean ====
/-
  A subcore's whole program, written as a line of steps: it fills its part of the shared copy of the table, meets the
  other subcores at the barrier, brings in its first three index rows, runs the loop, and finishes the last two chunks.
-/
module

public import proofs.«01_k».proof.Proof.Trip

@[expose] public section

noncomputable section

namespace Cert.Proof.Look

open Cert.KernelIdeal Cert.KernelIdeal.Gen
open Idealize.ShloMosaic
open Idealize.SL Idealize.SL.Sem

variable {F : FTy → Type} [FloatOps F]

/-- The guard of the last sixteen rows' copy. -/
def cond1 (L : grid0.Coords) : BitVec 1 :=
  Scalar.cmpi .ne (Scalar.extui (Scalar.cmpi .eq (BitVec.ofNat 32 (L 1).val) 0#32) : BitVec 32) 0#32

theorem cond1_iff : ∀ L : grid0.Coords, cond1 L = 1#1 ↔ (L 1).val = 0 := by decide +kernel

theorem off2_0 : ∀ L : grid0.Coords, k0_off2 L 0#32 = ![400 * (L 1).val + 200 * (L 0).val + 0, 0] := by decide +kernel
theorem off2_1 : ∀ L : grid0.Coords, k0_off2 L 1#32 = ![400 * (L 1).val + 200 * (L 0).val + 1, 0] := by decide +kernel
theorem off2_2 : ∀ L : grid0.Coords, k0_off2 L 2#32 = ![400 * (L 1).val + 200 * (L 0).val + 2, 0] := by decide +kernel

variable (L : grid0.Coords)

/-- The copy of a band of the table's rows into the shared copy, and the wait for it. -/
abbrev fill (off size : Fin 2 → ℕ) (inb : ∀ a, off a + size a ≤ S10000x128.size a) (sem : DmaSem sig) : Task F L :=
  Prog.lift (.enqueueDma (tabSlice off size inb) (.here (shSlice off size inb)) (.dma sem) (View.wordExact_bits rfl) (View.wordExact_bits rfl) ⟨Or.inl rfl, trivial⟩)
abbrev filled (off size : Fin 2 → ℕ) (inb : ∀ a, off a + size a ≤ S10000x128.size a) (sem : DmaSem sig) : Task F L :=
  Prog.lift (.waitDma2 sem (tabSlice off size inb) (shSlice off size inb) (View.wordExact_bits rfl) (View.wordExact_bits rfl))

/-- The copy of the last sixteen rows: the first subcore's alone. -/
def fillTail : Task F L :=
  if cond1 L = 1#1 then do
    fill L ![9984, 0] S16x128.size inb_S10000x128_S16x128_9984_0 cc0_scoped1.sem
    filled L ![9984, 0] S16x128.size inb_S10000x128_S16x128_9984_0 cc0_scoped1.sem
  else pure ⟨⟩

/-- What follows the loop: chunk 198 sent, chunk 199 gathered and sent, every write-back waited for. -/
def finish : Task F L := do
  gotRows L rb0 (Memref.isWhole_whole _).wordExact cc0_scratch7.sem
  putRows L (k0_off13 L 25344#32) (k0_off13_inb L 2) rb0 (Memref.isWhole_whole _).wordExact cc0_scratch13.sem
  sentRows L (k0_off13 L 25088#32) (k0_off13_inb L 0) rb1 (Memref.isWhole_whole _).wordExact cc0_scratch14.sem
  gotIdx L (k0_off2 L 199#32) (k0_off2_inb L 3) ib1 (Memref.isWhole_whole _).wordExact cc0_scratch11.sem
  getRows L ib1 rb1 cc0_scratch8.sem
  gotRows L rb1 (Memref.isWhole_whole _).wordExact cc0_scratch8.sem
  putRows L (k0_off13 L 25472#32) (k0_off13_inb L 3) rb1 (Memref.isWhole_whole _).wordExact cc0_scratch14.sem
  sentRows L (k0_off13 L 25216#32) (k0_off13_inb L 1) rb2 (Memref.isWhole_whole _).wordExact cc0_scratch15.sem
  sentRows L (k0_off13 L 25344#32) (k0_off13_inb L 2) rb0 (Memref.isWhole_whole _).wordExact cc0_scratch13.sem
  sentRows L (k0_off13 L 25472#32) (k0_off13_inb L 3) rb1 (Memref.isWhole_whole _).wordExact cc0_scratch14.sem
  pure ⟨⟩

/-- What follows the barrier. -/
def lookUp : Task F L := do
  getIdx L (k0_off2 L 0#32) (k0_off2_inb L 0) ib0 (Memref.isWhole_whole _).wordExact cc0_scoped2.sem
  gotIdx L (k0_off2 L 0#32) (k0_off2_inb L 0) ib0 (Memref.isWhole_whole _).wordExact cc0_scoped2.sem
  getIdx L (k0_off2 L 1#32) (k0_off2_inb L 1) ib1 (Memref.isWhole_whole _).wordExact cc0_scoped3.sem
  gotIdx L (k0_off2 L 1#32) (k0_off2_inb L 1) ib1 (Memref.isWhole_whole _).wordExact cc0_scoped3.sem
  getIdx L (k0_off2 L 2#32) (k0_off2_inb L 2) ib2 (Memref.isWhole_whole _).wordExact cc0_scoped4.sem
  gotIdx L (k0_off2 L 2#32) (k0_off2_inb L 2) ib2 (Memref.isWhole_whole _).wordExact cc0_scoped4.sem
  getRows L ib0 rb0 cc0_scratch7.sem
  Scf.Loop.for k0_t1_loop k0_t1_ok ⟨⟩ (fun t _ => trip L t)
  finish L

/-- The subcore's program. -/
def task : Task F L := do
  fill L (k0_off1 L) S624x128.size (k0_off1_inb L) cc0_scoped0.sem
  filled L (k0_off1 L) S624x128.size (k0_off1_inb L) cc0_scoped0.sem
  fillTail L
  SparseCore.subcoreBarrier sc_bar0 (grid0.bound 1) hsub0
  lookUp L

set_option maxHeartbeats 4000000 in
set_option maxRecDepth 65536 in
/-- The program's part up to its second index row: the shared copy's fill, the barrier, two index rows. -/
theorem head_eq : ∃ v2 v8 : BitVec 32,
    k0_part2 (F := F) L tV (Memref.isWhole_whole _) iV (Memref.isWhole_whole _) oV (Memref.isWhole_whole _) shV (Memref.isWhole_whole _)
      ib0 (Memref.isWhole_whole _) ib1 (Memref.isWhole_whole _) ib2 (Memref.isWhole_whole _) rb0 (Memref.isWhole_whole _) rb1 (Memref.isWhole_whole _) rb2 (Memref.isWhole_whole _)
      cc0_scratch7 cc0_scratch8 cc0_scratch9 cc0_scratch10 cc0_scratch11 cc0_scratch12 cc0_scratch13 cc0_scratch14 cc0_scratch15
      cc0_scoped0 cc0_scoped1 cc0_scoped2 cc0_scoped3 cc0_scoped4 = (do
      fill L (k0_off1 L) S624x128.size (k0_off1_inb L) cc0_scoped0.sem
      filled L (k0_off1 L) S624x128.size (k0_off1_inb L) cc0_scoped0.sem
      fillTail L
      SparseCore.subcoreBarrier sc_bar0 (grid0.bound 1) hsub0
      getIdx L (k0_off2 L 0#32) (k0_off2_inb L 0) ib0 (Memref.isWhole_whole _).wordExact cc0_scoped2.sem
      gotIdx L (k0_off2 L 0#32) (k0_off2_inb L 0) ib0 (Memref.isWhole_whole _).wordExact cc0_scoped2.sem
      getIdx L (k0_off2 L 1#32) (k0_off2_inb L 1) ib1 (Memref.isWhole_whole _).wordExact cc0_scoped3.sem
      gotIdx L (k0_off2 L 1#32) (k0_off2_inb L 1) ib1 (Memref.isWhole_whole _).wordExact cc0_scoped3.sem
      pure ⟨v2, v8⟩) := by
  refine ⟨Scalar.muli (Scalar.addi (Scalar.muli (BitVec.ofNat 32 (L 1).val) 2#32) (BitVec.ofNat 32 (L 0).val)) 25600#32,
    Scalar.muli (Scalar.addi (Scalar.muli (BitVec.ofNat 32 (L 1).val) 2#32) (BitVec.ofNat 32 (L 0).val)) 200#32, ?_⟩
  rw [k0_part2_eq_skeleton]
  unfold k0_part2_skel fillTail
  by_cases h : cond1 L = 1#1
  · rw [if_pos h]
    dsimp only
    rw [dif_pos (show Scalar.cmpi .ne (Scalar.extui (Scalar.cmpi .eq (BitVec.ofNat 32 (L 1).val) 0#32)) 0#32 = 1#1 from h)]
    rfl
  · rw [if_neg h]
    dsimp only
    rw [dif_neg (show ¬Scalar.cmpi .ne (Scalar.extui (Scalar.cmpi .eq (BitVec.ofNat 32 (L 1).val) 0#32)) 0#32 = 1#1 from h)]
    rfl

set_option maxHeartbeats 4000000 in
set_option maxRecDepth 65536 in
theorem task_eq :
    cc0_body (F := F) L tV (Memref.isWhole_whole _) iV (Memref.isWhole_whole _) oV (Memref.isWhole_whole _) shV (Memref.isWhole_whole _)
      ib0 (Memref.isWhole_whole _) ib1 (Memref.isWhole_whole _) ib2 (Memref.isWhole_whole _) rb0 (Memref.isWhole_whole _) rb1 (Memref.isWhole_whole _) rb2 (Memref.isWhole_whole _)
      cc0_scratch7 cc0_scratch8 cc0_scratch9 cc0_scratch10 cc0_scratch11 cc0_scratch12 cc0_scratch13 cc0_scratch14 cc0_scratch15
      cc0_scoped0 cc0_scoped1 cc0_scoped2 cc0_scoped3 cc0_scoped4 = task L := by
  obtain ⟨v2, v8, e⟩ := head_eq (F := F) L
  have hb : k0_t1_body (F := F) L tV (Memref.isWhole_whole _) iV (Memref.isWhole_whole _) oV (Memref.isWhole_whole _) shV (Memref.isWhole_whole _)
      ib0 (Memref.isWhole_whole _) ib1 (Memref.isWhole_whole _) ib2 (Memref.isWhole_whole _) rb0 (Memref.isWhole_whole _) rb1 (Memref.isWhole_whole _) rb2 (Memref.isWhole_whole _)
      cc0_scratch7 cc0_scratch8 cc0_scratch9 cc0_scratch10 cc0_scratch11 cc0_scratch12 cc0_scratch13 cc0_scratch14 cc0_scratch15
      cc0_scoped0 cc0_scoped1 cc0_scoped2 cc0_scoped3 cc0_scoped4 v2 v8 = fun t _ => trip L t :=
    funext fun t => funext fun u => body_eq L t v2 v8 u
  rw [cc0_body_eq_skeleton]
  unfold cc0_body_skel task lookUp finish
  rw [k0_part3_eq_skeleton]
  unfold k0_part3_skel
  rw [e]
  simp only [bind_assoc, pure_bind, hb]

end Cert.Proof.Look

end
-- ==== Proof.Fill.lean ====
/-
  The fill of the shared copy of the table: a subcore's band of rows, and the last sixteen rows by the first subcore, hold
  the table's rows afterwards; together the bands that one subcore fills are its part of the copy.
-/
module

public import proofs.«01_k».proof.Proof.Loop
public import proofs.«01_k».proof.Proof.Task

@[expose] public section

noncomputable section

namespace Cert.Proof.Look

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords) (T : Dev nD → TabArr F)

/-! ## The bands -/

/-- The rows of the band that every subcore fills, and the last sixteen. -/
abbrev mainRows : Finset S10000x128.Idx := (Rect.unit (s := S10000x128) (k0_off1 L) S624x128.size (k0_off1_inb L)).set
abbrev tailRows : Finset S10000x128.Idx := (Rect.unit (s := S10000x128) ![9984, 0] S16x128.size inb_S10000x128_S16x128_9984_0).set

theorem mem_mainRows {x : S10000x128.Idx} : x ∈ mainRows L ↔ 624 * (L 1).val ≤ (x 0).val ∧ (x 0).val < 624 * (L 1).val + 624 := by
  have h1 : (x 1).val < 128 := (x 1).isLt
  rw [Rect.mem_set_unit, k0_off1_eq L]
  constructor
  · intro h; exact h 0
  · intro h a
    match a with
    | ⟨0, _⟩ => exact h
    | ⟨1, _⟩ => change 0 ≤ (x 1).val ∧ (x 1).val < 0 + 128; omega

theorem mem_tailRows {x : S10000x128.Idx} : x ∈ tailRows ↔ 9984 ≤ (x 0).val := by
  have h0 : (x 0).val < 10000 := (x 0).isLt
  have h1 : (x 1).val < 128 := (x 1).isLt
  rw [Rect.mem_set_unit]
  constructor
  · intro h; exact (h 0).1
  · intro h a
    match a with
    | ⟨0, _⟩ => change 9984 ≤ (x 0).val ∧ (x 0).val < 9984 + 16; omega
    | ⟨1, _⟩ => change 0 ≤ (x 1).val ∧ (x 1).val < 0 + 128; omega

theorem mainRows_sub : mainRows L ⊆ partSet (jV L).val := fun x hx => by
  have := (mem_mainRows L).mp hx
  have hj : (L 1).val < 16 := (L 1).isLt
  rw [mem_partSet]; show (x 0).val / 624 % 16 = (L 1).val; omega

theorem rest_first (h : (L 1).val = 0) : partSet (jV L).val \ mainRows L = tailRows := by
  refine Finset.ext fun x => ?_
  have h0 : (x 0).val < 10000 := (x 0).isLt
  rw [Finset.mem_sdiff, mem_partSet, mem_mainRows, mem_tailRows, show (jV L).val = 0 from h, h]; omega

theorem rest_other (h : (L 1).val ≠ 0) : partSet (jV L).val \ mainRows L = ∅ := by
  refine Finset.eq_empty_of_forall_notMem fun x hx => ?_
  have h0 : (x 0).val < 10000 := (x 0).isLt
  have hj : (L 1).val < 16 := (L 1).isLt
  rw [Finset.mem_sdiff, mem_partSet, mem_mainRows, show (jV L).val = (L 1).val from rfl] at hx; omega

variable [FloatOps F] (O : CellTallies nD τ sig (HIx 1)) (W : Waits sig (HIx 1))

/-! ## The copies -/

/-- A band copied: it holds the table's rows. -/
theorem fill_step {α : Type} {Q : α → sProp 𝕄} {k : PUnit.{1} → Prog (TpuEff nD τ sig (Elt F) Λ₀ (.scVector (cV L) (jV L))) α}
    (q : PosShare TreeShare) (off size : Fin 2 → ℕ) (inb : ∀ a, off a + size a ≤ S10000x128.size a) (sem : DmaSem sig)
    (hpos : 0 < (Rect.unit (s := S10000x128) off size inb).shape.numel) :
    iprop((tLoc d ↦{q} (T d : Buf (Elt F) (tLoc d)))
        ∗ (∃ f : Buf (Elt F) (shLoc d (cV L)), shLoc d (cV L) ↦[(Rect.unit (s := S10000x128) off size inb).set]{fullShare} f)
        ∗ zero d (cV L) (jV L) sem ∗ ledger d (cV L) (jV L) O W)
      ⊢ iprop((iprop((tLoc d ↦{q} (T d : Buf (Elt F) (tLoc d)))
          ∗ (shLoc d (cV L) ↦[(Rect.unit (s := S10000x128) off size inb).set]{fullShare} (T d : Buf (Elt F) (shLoc d (cV L))))
          ∗ zero d (cV L) (jV L) sem ∗ ledger d (cV L) (jV L) O W)
            -∗ wp frame (wpE (defs₀ (F := F)) 𝒱₀ (V d (cV L) (jV L)) none) Set.univ (k ⟨⟩) Q)
        -∗ wp frame (wpE (defs₀ (F := F)) 𝒱₀ (V d (cV L) (jV L)) none) Set.univ (fill L off size inb sem >>= fun _ => filled L off size inb sem >>= k) Q) := by
  iintro ⟨Ht, ⟨%f, Hf⟩, Hz, Hl⟩ Hk
  have es : (Rect.unit (s := S10000x128) off size inb).set = (shSlice off size inb).view.set := (set_shSlice off size inb).symm
  ihave Ht := (pointsTo_split_subset (ℓ := tLoc d) (q := q) (f := (T d : Buf (Elt F) (tLoc d))) (S := Finset.univ) (Finset.subset_univ (tabSlice off size inb).view.set)).1 $$ Ht
  icases Ht with ⟨Ht, Hr⟩
  iapply (Transfers.wp_dmaLocal countersEmb 𝒱₀ (V d (cV L) (jV L)) none (src := tabSlice off size inb) (dst := shSlice off size inb) (sm := .dma sem) (q := q)
    (fs := (T d : Buf (Elt F) (tLoc d))) (Sd := (Rect.unit (s := S10000x128) off size inb).set) (fd := (f : Buf (Elt F) (shLoc d (cV L))))
    (default : HIx 1) (shSlice off size inb).view.dmaCredit rfl (View.dmaCredit_pos _ hpos) (es ▸ Finset.Subset.refl _)) $$ [Ht Hf Hz]
  · isplitl [Ht]; · iexact Ht
    isplitl [Hf]; · iexact Hf
    iexact Hz
  iintro Hfl
  iapply (wait_any d (cV L) (jV L) (tabSlice off size inb) (shSlice off size inb) _ _ rfl) $$ [Hfl Hl]
  · isplitl [Hfl] <;> iassumption
  iintro ⟨⟨Hd, Hs⟩, Hz, Hl⟩
  iapply Hk
  isplitl [Hs Hr]
  · iapply (pointsTo_split_subset (ℓ := tLoc d) (q := q) (f := (T d : Buf (Elt F) (tLoc d))) (S := Finset.univ) (Finset.subset_univ (tabSlice off size inb).view.set)).2
    isplitl [Hs] <;> iassumption
  isplitl [Hd]
  · iapply (show ((shSlice off size inb).view.loc (V d (cV L) (jV L)) ↦[(Rect.unit (s := S10000x128) off size inb).set]{fullShare}
          (shSlice off size inb).view.write (Elt F) f (ReadAs.same.apply ((tabSlice off size inb).view.read (Elt F) (T d))) Finset.univ : sProp 𝕄)
        ⊢ (shLoc d (cV L) ↦[(Rect.unit (s := S10000x128) off size inb).set]{fullShare} (T d : Buf (Elt F) (shLoc d (cV L)))) from
      Entails.of_eq (pointsTo_congr (ℓ := shLoc d (cV L)) (I := (Rect.unit (s := S10000x128) off size inb).set) (q := fullShare)
        (fun o ho => write_shSlice off size inb (T d) f o (es ▸ ho)))) $$ Hd
  isplitl [Hz] <;> iassumption

/-- A subcore's part of the copy filled. -/
theorem fill_part {α : Type} {Q : α → sProp 𝕄} {k : PUnit.{1} → Prog (TpuEff nD τ sig (Elt F) Λ₀ (.scVector (cV L) (jV L))) α} (q : PosShare TreeShare) :
    iprop((tLoc d ↦{q} (T d : Buf (Elt F) (tLoc d)))
        ∗ (∃ f : Buf (Elt F) (shLoc d (cV L)), shLoc d (cV L) ↦[partSet (jV L).val]{fullShare} f)
        ∗ zero d (cV L) (jV L) cc0_scoped0.sem ∗ zero d (cV L) (jV L) cc0_scoped1.sem ∗ ledger d (cV L) (jV L) O W)
      ⊢ iprop((iprop((tLoc d ↦{q} (T d : Buf (Elt F) (tLoc d))) ∗ shPart T d (cV L) (jV L).val fullShare
          ∗ zero d (cV L) (jV L) cc0_scoped0.sem ∗ zero d (cV L) (jV L) cc0_scoped1.sem ∗ ledger d (cV L) (jV L) O W)
            -∗ wp frame (wpE (defs₀ (F := F)) 𝒱₀ (V d (cV L) (jV L)) none) Set.univ (k ⟨⟩) Q)
        -∗ wp frame (wpE (defs₀ (F := F)) 𝒱₀ (V d (cV L) (jV L)) none) Set.univ
          (fill L (k0_off1 L) S624x128.size (k0_off1_inb L) cc0_scoped0.sem >>= fun _ =>
            filled L (k0_off1 L) S624x128.size (k0_off1_inb L) cc0_scoped0.sem >>= fun _ => fillTail L >>= k) Q) := by
  iintro ⟨Ht, ⟨%f, Hf⟩, Hz, Hz', Hl⟩ Hk
  ihave Hf := (pointsTo_split_subset (ℓ := shLoc d (cV L)) (q := fullShare) (f := f) (S := partSet (jV L).val) (mainRows_sub L)).1 $$ Hf
  icases Hf with ⟨Hf, Hrest⟩
  iapply (fill_step d L T O W q (k0_off1 L) S624x128.size (k0_off1_inb L) cc0_scoped0.sem (show 0 < S624x128.numel by decide)) $$ [Ht Hf Hz Hl]
  · isplitl [Ht]; · iexact Ht
    isplitl [Hf]; · iexists f; iexact Hf
    isplitl [Hz] <;> iassumption
  iintro ⟨Ht, Hf, Hz, Hl⟩
  unfold fillTail
  by_cases h : (L 1).val = 0
  · rw [if_pos ((cond1_iff L).mpr h)]
    simp only [bind_assoc]
    iapply (fill_step d L T O W q ![9984, 0] S16x128.size inb_S10000x128_S16x128_9984_0 cc0_scoped1.sem (show 0 < S16x128.numel by decide)) $$ [Ht Hrest Hz' Hl]
    · isplitl [Ht]; · iexact Ht
      isplitl [Hrest]
      · iexists f
        iapply (Entails.of_eq (congrArg (fun S => (shLoc d (cV L) ↦[S]{fullShare} f : sProp 𝕄)) (rest_first L h))) $$ Hrest
      isplitl [Hz'] <;> iassumption
    iintro ⟨Ht, Hrest, Hz', Hl⟩
    iapply Hk
    isplitl [Ht]; · iexact Ht
    isplitl [Hf Hrest]
    · iapply (pointsTo_split_subset (ℓ := shLoc d (cV L)) (q := fullShare) (f := (T d : Buf (Elt F) (shLoc d (cV L)))) (S := partSet (jV L).val) (mainRows_sub L)).2
      isplitl [Hf]; · iexact Hf
      iapply (Entails.of_eq (congrArg (fun S => (shLoc d (cV L) ↦[S]{fullShare} (T d : Buf (Elt F) (shLoc d (cV L))) : sProp 𝕄)) (rest_first L h).symm)) $$ Hrest
    isplitl [Hz]; · iexact Hz
    isplitl [Hz'] <;> iassumption
  · rw [if_neg fun e => h ((cond1_iff L).mp e), pure_bind]
    iapply Hk
    isplitl [Ht]; · iexact Ht
    isplitl [Hf Hrest]
    · iapply (pointsTo_split_subset (ℓ := shLoc d (cV L)) (q := fullShare) (f := (T d : Buf (Elt F) (shLoc d (cV L)))) (S := partSet (jV L).val) (mainRows_sub L)).2
      isplitl [Hf]; · iexact Hf
      iapply (Entails.of_eq (pointsTo_congr (ℓ := shLoc d (cV L)) (I := partSet (jV L).val \ mainRows L) (q := fullShare) (f := f)
        (g := (T d : Buf (Elt F) (shLoc d (cV L)))) (fun o ho => absurd ((rest_other L h) ▸ ho) (Finset.notMem_empty o)))) $$ Hrest
    isplitl [Hz]; · iexact Hz
    isplitl [Hz'] <;> iassumption

/-! ## The barrier's payloads -/

/-- A subcore's part, filled, is what its duties on the barrier hand over: a share to each subcore. -/
theorem pays_intro : (shPart T d (cV L) (jV L).val fullShare : sProp 𝕄)
    ⊢ bigSep Finset.univ fun j : Fin (grid0.bound 1) => (bRd T).payload (bcell d (cV L) (j.castLE hsub0)) 0 (jV L).val := by
  exact Entails.of_eq (pointsTo_piecesOf (ℓ := shLoc d (cV L)) (partSet (jV L).val) (T d : Buf (Elt F) (shLoc d (cV L))) (o := 16) (by decide) fullShare)

/-- What a subcore collects at the barrier is the whole copy, at its share. -/
theorem pays_elim : (bigSep ((bRd T).duties (bcell d (cV L) (jV L)) 0 \ ∅) fun n => (bRd T).payload (bcell d (cV L) (jV L)) 0 n)
    ⊢ tabAt d (cV L) T (qSh (jV L)) := by
  rw [Finset.sdiff_empty, bRd_duties₀, bigSep_image_of_injOn (Fin.val_injective.injOn)]
  show (bigSep (Finset.univ : Finset (Fin 16)) fun n => (shLoc d (cV L) ↦[partSet n.val]{qSh (jV L)} (T d : Buf (Elt F) (shLoc d (cV L))) : sProp 𝕄)) ⊢ _
  rw [← pointsTo_biUnion (Finset.univ : Finset (Fin 16)) (ℓ := shLoc d (cV L)) (fun n => partSet n.val)
    (fun i _ j _ h => partSet_disjoint fun e => h (Fin.ext e)), partSet_cover]
  exact BI.Entails.refl _

end Cert.Proof.Look

end
-- ==== Proof.Own.lean ====
/-
  A vector subcore's own semaphores and buffers, one by one: the fourteen transfer semaphores and the six scratch buffers
  that the kernel uses, and the rest.
-/
module

public import proofs.«01_k».proof.Proof.Loop

@[expose] public section

noncomputable section

namespace Cert.Proof.Look

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

open Idealize.ShloMosaic.SparseCore.Cfg (ownBufs ownSems0 ownCells ownRefs mem_ownCells mem_ownRefs)

variable (d : Dev nD) (c : Fin τ.nSC) (j : Fin τ.nSub)

/-- The scratch buffers the kernel uses. -/
abbrev scratch : List (Ref sig .scVector) := [cc0_scratch1, cc0_scratch2, cc0_scratch3, cc0_scratch4, cc0_scratch5, cc0_scratch6]

/-- The subcore's other semaphores, and its other buffers. -/
def otherSems : sProp 𝕄 :=
  bigSep (ownCells (V d c j) \ (Finset.univ : Finset (DmaSem sig)).image fun s => ((V d c j, SemLoc.dma s) : GSem nD τ sig)) fun g => semVal g 0
def otherBufs : sProp 𝕄 :=
  bigSep (ownRefs (τ := τ) (.scVector c j) \ scratch.toFinset.image fun b => (Proc.scVector c j).devRef b)
    fun b => iprop(∃ f, ((d, b) : Loc nD τ sig) ↦{fullShare} f)

/-- A separating product over a set, with the members that a one-to-one naming names taken out. -/
theorem bigSep_named {I J : Type} [DecidableEq I] [DecidableEq J] (s : Finset I) (t : Finset J) (f : J → I) (hf : Function.Injective f)
    (hs : ∀ b ∈ t, f b ∈ s) (Φ : I → sProp 𝕄) : bigSep s Φ = iprop(bigSep t (fun b => Φ (f b)) ∗ bigSep (s \ t.image f) Φ) := by
  have hsub : t.image f ⊆ s := Finset.image_subset_iff.mpr hs
  rw [SparseCore.bigSep_sdiff_split' hsub, bigSep_image_of_injOn hf.injOn]

theorem ownSems_list : (ownSems0 (V d c j) : sProp 𝕄)
    = iprop((zero d c j cc0_scratch7.sem ∗ zero d c j cc0_scratch8.sem ∗ zero d c j cc0_scratch9.sem
        ∗ zero d c j cc0_scratch10.sem ∗ zero d c j cc0_scratch11.sem ∗ zero d c j cc0_scratch12.sem
        ∗ zero d c j cc0_scratch13.sem ∗ zero d c j cc0_scratch14.sem ∗ zero d c j cc0_scratch15.sem
        ∗ zero d c j cc0_scoped0.sem ∗ zero d c j cc0_scoped1.sem ∗ zero d c j cc0_scoped2.sem ∗ zero d c j cc0_scoped3.sem ∗ zero d c j cc0_scoped4.sem)
      ∗ otherSems d c j) := by
  unfold SparseCore.Cfg.ownSems0 otherSems
  rw [bigSep_named (ownCells (V d c j)) (Finset.univ : Finset (DmaSem sig)) (fun s => ((V d c j, SemLoc.dma s) : GSem nD τ sig))
      (fun a b h => by simpa using h)
      (fun s _ => mem_ownCells.mpr ⟨rfl, by
        show (SemLoc.dma s : SemLoc sig).isScoped .scVector = true
        revert s; decide⟩),
    bigSep_univ_eq_bigSepL [cc0_scratch7.sem, cc0_scratch8.sem, cc0_scratch9.sem, cc0_scratch10.sem, cc0_scratch11.sem, cc0_scratch12.sem,
      cc0_scratch13.sem, cc0_scratch14.sem, cc0_scratch15.sem, cc0_scoped0.sem, cc0_scoped1.sem, cc0_scoped2.sem, cc0_scoped3.sem, cc0_scoped4.sem]
      (by decide) (by decide)]
  rfl

theorem ownBufs_list : (ownBufs (V d c j) : sProp 𝕄)
    = iprop((spare d c j ib0 ∗ spare d c j ib1 ∗ spare d c j ib2 ∗ spare d c j rb0 ∗ spare d c j rb1 ∗ spare d c j rb2) ∗ otherBufs d c j) := by
  unfold SparseCore.Cfg.ownBufs otherBufs
  rw [bigSep_named (ownRefs (τ := τ) (.scVector c j)) scratch.toFinset (fun b => (Proc.scVector c j : Proc τ).devRef b)
      (fun a b h => Proc.devRef_injective _ h)
      (fun b hb => by
        refine SparseCore.Cfg.mem_ownRefs_of_owner (p := Proc.scVector c j) ?_
        have hb := List.mem_toFinset.mp hb
        simp only [List.mem_cons, List.not_mem_nil, or_false] at hb
        rcases hb with rfl | rfl | rfl | rfl | rfl | rfl <;> rfl),
    bigSep_eq_bigSepL _ (by decide)]
  have hs : ∀ {s : Shape} {e : EltTy} (b : Memref sig .scVector .vmem s e) (h : b.view.set = Finset.univ),
      (spare d c j b : sProp 𝕄) = iprop(∃ f : Buf (Elt F) (b.view.loc (V d c j)), b.view.loc (V d c j) ↦{fullShare} f) := fun b h => by
    unfold spare; rw [h]
  rw [hs ib0 (View.set_whole _), hs ib1 (View.set_whole _), hs ib2 (View.set_whole _), hs rb0 (View.set_whole _), hs rb1 (View.set_whole _), hs rb2 (View.set_whole _)]
  rfl

end Cert.Proof.Look

end
-- ==== Proof.Finish.lean ====
/-
  What follows the loop: the last two chunks are gathered and sent, and every transfer is waited for. All the subcore's
  chunks are written, and its buffers, shares and semaphores are free again.
-/
module

public import proofs.«01_k».proof.Proof.Loop
public import proofs.«01_k».proof.Proof.Task

@[expose] public section

noncomputable section

namespace Cert.Proof.Look

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords) (X : IdxArr F) (T : Dev nD → TabArr F) (O : CellTallies nD τ sig (HIx 1)) (W : Waits sig (HIx 1))

/-- The subcore at its end. -/
def ended : sProp 𝕄 :=
  iprop(dones d L X T 200
    ∗ (idxAt d X (qi L 0) ∗ idxAt d X (qi L 1) ∗ idxAt d X (qi L 2))
    ∗ (tabAt d (cV L) T (qs L 0) ∗ tabAt d (cV L) T (qs L 1) ∗ tabAt d (cV L) T (qs L 2))
    ∗ (spare d (cV L) (jV L) ib0 ∗ spare d (cV L) (jV L) ib1 ∗ spare d (cV L) (jV L) ib2
      ∗ spare d (cV L) (jV L) rb0 ∗ spare d (cV L) (jV L) rb1 ∗ spare d (cV L) (jV L) rb2)
    ∗ (zero d (cV L) (jV L) cc0_scratch7.sem ∗ zero d (cV L) (jV L) cc0_scratch8.sem ∗ zero d (cV L) (jV L) cc0_scratch9.sem
      ∗ zero d (cV L) (jV L) cc0_scratch10.sem ∗ zero d (cV L) (jV L) cc0_scratch11.sem ∗ zero d (cV L) (jV L) cc0_scratch12.sem
      ∗ zero d (cV L) (jV L) cc0_scratch13.sem ∗ zero d (cV L) (jV L) cc0_scratch14.sem ∗ zero d (cV L) (jV L) cc0_scratch15.sem)
    ∗ ledger d (cV L) (jV L) O W)

variable [FloatOps F]

theorem off13 (r : Fin 4) : k0_off13 L (BitVec.ofNat 32 (25088 + 128 * r.val)) = ![128 * (base L + (196 + r.val)), 0] :=
  (k0_off13_eq L r).trans (vec2 (by show _ = 128 * (400 * (L 1).val + 200 * (L 0).val + _); omega))

set_option maxHeartbeats 1000000 in
theorem finish_step (hX : Ranged X) :
    Inv d L X T O W 66 ⊢ wp frame (wpE (defs₀ (F := F)) 𝒱₀ (V d (cV L) (jV L)) none) Set.univ (finish L) fun _ => ended d L X T O W := by
  have hN : ∀ rb ∈ [rb0, rb1, rb2], ∑ i, (rb.slice (S128x128.rowRect gathers_S10000x128_S128x128.axis' i) (S128x128.stride_rowRect gathers_S10000x128_S128x128.axis' i)).view.dmaCredit = rb.view.dmaCredit := by decide
  unfold Inv finish pair1 pair2
  rw [if_neg (by decide), if_neg (by decide), if_neg (by decide)]
  iintro ⟨Hrow0, Hzi0, Hzw0, Hi0, ⟨Hout1, Hidx1⟩, Ht1, Hg1, ⟨Hout2, Hi2, Hib2, Hzi2⟩, Ht2, Hg2, Hdone, Htodo, Hl⟩
  iapply (wait_gather d (cV L) (jV L) X T _ _) $$ [Hrow0 Hl]
  · isplitl [Hrow0] <;> iassumption
  iintro ⟨⟨Hrb0, Hib0, Ht0⟩, Hg0, Hl⟩
  ihave Htodo := (todos_next d L (by decide)) $$ Htodo
  icases Htodo with ⟨Hn, Htodo⟩
  iapply (start_write d (cV L) (jV L) X T (n := base L + 198) (off13 L 2) _ _ _) $$ [Hrb0 Hn Hzw0]
  · isplitl [Hrb0]; · iexact Hrb0
    isplitl [Hn] <;> iassumption
  iintro Hout0
  iapply (wait_write d (cV L) (jV L) X T _ _) $$ [Hout1 Hl]
  · isplitl [Hout1] <;> iassumption
  iintro ⟨⟨Hn, Hrb1⟩, Hzw1, Hl⟩
  ihave Hdone := (dones_succ d L X T 196) $$ [Hdone Hn]
  · isplitl [Hdone] <;> iassumption
  iapply (wait_idx d (cV L) (jV L) X _ _ _) $$ [Hidx1 Hl]
  · isplitl [Hidx1] <;> iassumption
  iintro ⟨Hib1, Hi1, Hzi1, Hl⟩
  iapply (start_gather d (cV L) (jV L) X T hX (hN rb1 (by simp)) _ _ _ _ _ _) $$ [Hib1 Hrb1 Ht1 Hg1]
  · isplitl [Hib1]; · iexact Hib1
    isplitl [Hrb1]; · iexact Hrb1
    isplitl [Ht1] <;> iassumption
  iintro Hrow1
  iapply (wait_gather d (cV L) (jV L) X T _ _) $$ [Hrow1 Hl]
  · isplitl [Hrow1] <;> iassumption
  iintro ⟨⟨Hrb1, Hib1, Ht1⟩, Hg1, Hl⟩
  ihave Htodo := (todos_next d L (by decide)) $$ Htodo
  icases Htodo with ⟨Hn, -⟩
  iapply (start_write d (cV L) (jV L) X T (n := base L + 199) (off13 L 3) _ _ _) $$ [Hrb1 Hn Hzw1]
  · isplitl [Hrb1]; · iexact Hrb1
    isplitl [Hn] <;> iassumption
  iintro Hout1
  iapply (wait_write d (cV L) (jV L) X T _ _) $$ [Hout2 Hl]
  · isplitl [Hout2] <;> iassumption
  iintro ⟨⟨Hn, Hrb2⟩, Hzw2, Hl⟩
  ihave Hdone := (dones_succ d L X T 197) $$ [Hdone Hn]
  · isplitl [Hdone] <;> iassumption
  iapply (wait_write d (cV L) (jV L) X T _ _) $$ [Hout0 Hl]
  · isplitl [Hout0] <;> iassumption
  iintro ⟨⟨Hn, Hrb0⟩, Hzw0, Hl⟩
  ihave Hdone := (dones_succ d L X T 198) $$ [Hdone Hn]
  · isplitl [Hdone] <;> iassumption
  iapply (wait_write d (cV L) (jV L) X T _ _) $$ [Hout1 Hl]
  · isplitl [Hout1] <;> iassumption
  iintro ⟨⟨Hn, Hrb1⟩, Hzw1, Hl⟩
  ihave Hdone := (dones_succ d L X T 199) $$ [Hdone Hn]
  · isplitl [Hdone] <;> iassumption
  sl_step
  unfold ended
  isplitl [Hdone]; · iexact Hdone
  isplitl [Hi0 Hi1 Hi2]
  · isplitl [Hi0]; · iexact Hi0
    isplitl [Hi1] <;> iassumption
  isplitl [Ht0 Ht1 Ht2]
  · isplitl [Ht0]; · iexact Ht0
    isplitl [Ht1] <;> iassumption
  isplitl [Hib0 Hib1 Hib2 Hrb0 Hrb1 Hrb2]
  · isplitl [Hib0]; · iapply (holds_spare d (cV L) (jV L) ib0 _) $$ Hib0
    isplitl [Hib1]; · iapply (holds_spare d (cV L) (jV L) ib1 _) $$ Hib1
    isplitl [Hib2]; · iexact Hib2
    isplitl [Hrb0]; · iexact Hrb0
    isplitl [Hrb1] <;> iassumption
  isplitr [Hl]
  swap; · iexact Hl
  isplitl [Hg0]; · iexact Hg0
  isplitl [Hg1]; · iexact Hg1
  isplitl [Hg2]; · iexact Hg2
  isplitl [Hzi0]; · iexact Hzi0
  isplitl [Hzi1]; · iexact Hzi1
  isplitl [Hzi2]; · iexact Hzi2
  isplitl [Hzw0]; · iexact Hzw0
  isplitl [Hzw1] <;> iassumption

end Cert.Proof.Look

end
-- ==== Proof.Tile.lean ====
/-
  One vector subcore's whole task: from its shares of the table and of the index array, its chunks of the result at any
  contents and its part of the shared copy, to the same with every chunk written with the looked-up rows.
-/
module

public import proofs.«01_k».proof.Proof.Fill
public import proofs.«01_k».proof.Proof.Own
public import proofs.«01_k».proof.Proof.Finish

@[expose] public section

noncomputable section

namespace Cert.Proof.Look

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) (X : IdxArr F) (T : Dev nD → TabArr F) (O : CellTallies nD τ sig (HIx 1)) (W : Waits sig (HIx 1))

/-! ## The three slots' shares -/

theorem idx_slots (q : PosShare TreeShare) : (idxAt d X q : sProp 𝕄) = iprop(idxAt d X (slot q 0) ∗ idxAt d X (slot q 1) ∗ idxAt d X (slot q 2)) := by
  unfold idxAt
  rw [pointsTo_piecesOf (ℓ := iLoc d) Finset.univ (X : Buf (Elt F) (iLoc d)) (o := 3) (by decide) q, bigSep_univ_eq_bigSepL [0, 1, 2] (by decide) (by decide)]
  rfl

theorem tab_slots (c : Fin τ.nSC) (q : PosShare TreeShare) : (tabAt d c T q : sProp 𝕄) = iprop(tabAt d c T (slot q 0) ∗ tabAt d c T (slot q 1) ∗ tabAt d c T (slot q 2)) := by
  unfold tabAt
  rw [pointsTo_piecesOf (ℓ := shLoc d c) Finset.univ (T d : Buf (Elt F) (shLoc d c)) (o := 3) (by decide) q, bigSep_univ_eq_bigSepL [0, 1, 2] (by decide) (by decide)]
  rfl

/-- The buffers and semaphores that the part after the barrier uses. -/
def pool : sProp 𝕄 :=
  iprop((spare d (cV L) (jV L) ib0 ∗ spare d (cV L) (jV L) ib1 ∗ spare d (cV L) (jV L) ib2
      ∗ spare d (cV L) (jV L) rb0 ∗ spare d (cV L) (jV L) rb1 ∗ spare d (cV L) (jV L) rb2)
    ∗ (zero d (cV L) (jV L) cc0_scratch7.sem ∗ zero d (cV L) (jV L) cc0_scratch8.sem ∗ zero d (cV L) (jV L) cc0_scratch9.sem
      ∗ zero d (cV L) (jV L) cc0_scratch10.sem ∗ zero d (cV L) (jV L) cc0_scratch11.sem ∗ zero d (cV L) (jV L) cc0_scratch12.sem
      ∗ zero d (cV L) (jV L) cc0_scratch13.sem ∗ zero d (cV L) (jV L) cc0_scratch14.sem ∗ zero d (cV L) (jV L) cc0_scratch15.sem)
    ∗ (zero d (cV L) (jV L) cc0_scoped2.sem ∗ zero d (cV L) (jV L) cc0_scoped3.sem ∗ zero d (cV L) (jV L) cc0_scoped4.sem))

variable [FloatOps F]

theorem loop_step {α : Type} {Q : α → sProp 𝕄} {k : PUnit.{1} → Prog (TpuEff nD τ sig (Elt F) Λ₀ (.scVector (cV L) (jV L))) α} (hX : Ranged X) :
    Inv d L X T O W 0 ⊢ iprop((∀ u : PUnit.{1}, Inv d L X T O W 66 -∗ wp frame (wpE (defs₀ (F := F)) 𝒱₀ (V d (cV L) (jV L)) none) Set.univ (k u) Q)
      -∗ wp frame (wpE (defs₀ (F := F)) 𝒱₀ (V d (cV L) (jV L)) none) Set.univ ((Scf.Loop.for k0_t1_loop k0_t1_ok ⟨⟩ (fun t _ => trip (F := F) L t)) >>= k) Q) := by
  have h := Scf.wp_for_bind frame (wpE (defs₀ (F := F)) 𝒱₀ (V d (cV L) (jV L)) none) Set.univ k0_t1_loop.lb k0_t1_loop.ub k0_t1_loop.st k0_t1_ok (⟨⟩ : PUnit.{1})
    (fun t _ => trip (F := F) L t) (fun t _ => Inv d L X T O W t) (fun t _ => trip_step d L X T O W hX t) (kk := k) (Q := Q)
  rw [show Inv d L X T O W (Scf.trips k0_t1_loop.lb k0_t1_loop.ub k0_t1_loop.st) = Inv d L X T O W 66 from congrArg (Inv d L X T O W) trips_eq] at h
  exact h

set_option maxHeartbeats 1000000 in
theorem lookUp_step (hX : Ranged X) :
    iprop(pool d L ∗ idxAt d X (qTile (cV L) (jV L)) ∗ tabAt d (cV L) T (qSh (jV L)) ∗ todos d L 0 ∗ ledger d (cV L) (jV L) O W)
      ⊢ wp frame (wpE (defs₀ (F := F)) 𝒱₀ (V d (cV L) (jV L)) none) Set.univ (lookUp L) fun _ =>
        iprop(pool d L ∗ idxAt d X (qTile (cV L) (jV L)) ∗ tabAt d (cV L) T (qSh (jV L)) ∗ dones d L X T 200 ∗ ledger d (cV L) (jV L) O W) := by
  have hN : ∀ rb ∈ [rb0, rb1, rb2], ∑ i, (rb.slice (S128x128.rowRect gathers_S10000x128_S128x128.axis' i) (S128x128.stride_rowRect gathers_S10000x128_S128x128.axis' i)).view.dmaCredit = rb.view.dmaCredit := by decide
  rw [idx_slots, tab_slots]
  unfold pool lookUp
  iintro ⟨⟨⟨Hib0, Hib1, Hib2, Hrb0, Hrb1, Hrb2⟩, ⟨Hg0, Hg1, Hg2, Hzi0, Hzi1, Hzi2, Hzw0, Hzw1, Hzw2⟩, Hs2, Hs3, Hs4⟩, ⟨Hi0, Hi1, Hi2⟩, ⟨Ht0, Ht1, Ht2⟩, Htodo, Hl⟩
  -- the first three index rows
  iapply (start_idx d (cV L) (jV L) X (n := base L + 0) (off2_0 L) _ _ _) $$ [Hi0 Hib0 Hs2]
  · isplitl [Hi0]; · iexact Hi0
    isplitl [Hib0] <;> iassumption
  iintro Hf
  iapply (wait_idx d (cV L) (jV L) X _ _ _) $$ [Hf Hl]
  · isplitl [Hf] <;> iassumption
  iintro ⟨Hib0, Hi0, Hs2, Hl⟩
  iapply (start_idx d (cV L) (jV L) X (n := base L + 1) (off2_1 L) _ _ _) $$ [Hi1 Hib1 Hs3]
  · isplitl [Hi1]; · iexact Hi1
    isplitl [Hib1] <;> iassumption
  iintro Hf
  iapply (wait_idx d (cV L) (jV L) X _ _ _) $$ [Hf Hl]
  · isplitl [Hf] <;> iassumption
  iintro ⟨Hib1, Hi1, Hs3, Hl⟩
  iapply (start_idx d (cV L) (jV L) X (n := base L + 2) (off2_2 L) _ _ _) $$ [Hi2 Hib2 Hs4]
  · isplitl [Hi2]; · iexact Hi2
    isplitl [Hib2] <;> iassumption
  iintro Hf
  iapply (wait_idx d (cV L) (jV L) X _ _ _) $$ [Hf Hl]
  · isplitl [Hf] <;> iassumption
  iintro ⟨Hib2, Hi2, Hs4, Hl⟩
  -- the first gather, the loop
  iapply (start_gather d (cV L) (jV L) X T hX (hN rb0 (by simp)) _ _ _ _ _ _) $$ [Hib0 Hrb0 Ht0 Hg0]
  · isplitl [Hib0]; · iexact Hib0
    isplitl [Hrb0]; · iexact Hrb0
    isplitl [Ht0] <;> iassumption
  iintro Hrow0
  iapply (loop_step d L X T O W hX) $$ [Hrow0 Hzi0 Hzw0 Hi0 Hib1 Hrb1 Hzi1 Hzw1 Hi1 Ht1 Hg1 Hib2 Hrb2 Hzi2 Hzw2 Hi2 Ht2 Hg2 Htodo Hl]
  · unfold Inv pair1 pair2 ready
    rw [if_pos rfl, if_pos rfl]
    isplitl [Hrow0]; · iexact Hrow0
    isplitl [Hzi0]; · iexact Hzi0
    isplitl [Hzw0]; · iexact Hzw0
    isplitl [Hi0]; · iexact Hi0
    isplitl [Hib1 Hrb1 Hzi1 Hzw1 Hi1]
    · isplitl [Hib1]; · iexact Hib1
      isplitl [Hrb1]; · iexact Hrb1
      isplitl [Hzi1]; · iexact Hzi1
      isplitl [Hzw1] <;> iassumption
    isplitl [Ht1]; · iexact Ht1
    isplitl [Hg1]; · iexact Hg1
    isplitl [Hib2 Hrb2 Hzi2 Hzw2 Hi2]
    · isplitl [Hib2]; · iexact Hib2
      isplitl [Hrb2]; · iexact Hrb2
      isplitl [Hzi2]; · iexact Hzi2
      isplitl [Hzw2] <;> iassumption
    isplitl [Ht2]; · iexact Ht2
    isplitl [Hg2]; · iexact Hg2
    isplitr [Htodo Hl]
    · unfold dones
      rw [show 3 * 0 - 2 = 0 from rfl, Finset.range_zero, bigSep_empty]
      iempintro
    isplitl [Htodo] <;> iassumption
  iintro %u HI
  -- the end
  iapply (wp_wand) $$ [HI]
  · iapply (finish_step d L X T O W hX) $$ HI
  iintro %u'
  unfold ended
  iintro ⟨Hdone, Hi, Ht, Hb, Hz, Hl⟩
  isplitl [Hb Hz Hs2 Hs3 Hs4]
  · isplitl [Hb]; · iexact Hb
    isplitl [Hz]; · iexact Hz
    isplitl [Hs2]; · iexact Hs2
    isplitl [Hs3] <;> iassumption
  isplitl [Hi]; · iexact Hi
  isplitl [Ht]; · iexact Ht
  isplitl [Hdone] <;> iassumption

set_option maxHeartbeats 4000000 in
/-- The task. -/
theorem tile_body (hF : (K (F := F)).Facts) (hX : Ranged X) (hO : ∀ g, O g none = 0)
    (hOlev : ∀ g ι, 0 < O g ι → 8 * (0 : Fin 1).val + 6 ≤ (K (F := F)).lev g ι) :
    iprop(levAts (K (F := F)).L (K (F := F)).lev ∗ bkit T d (cV L) (jV L)
        ∗ (((tLoc d ↦{qTile (cV L) (jV L)} (T d : Buf (Elt F) (tLoc d))) ∗ idxAt d X (qTile (cV L) (jV L)) ∗ todos d L 0)
          ∗ ∃ f : Buf (Elt F) (shLoc d (cV L)), shLoc d (cV L) ↦[partSet (jV L).val]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (task L)
          fun _ => iprop((((tLoc d ↦{qTile (cV L) (jV L)} (T d : Buf (Elt F) (tLoc d))) ∗ idxAt d X (qTile (cV L) (jV L)) ∗ dones d L X T 200)
              ∗ tabAt d (cV L) T (qSh (jV L)) ∗ semVal (bcell d (cV L) (jV L)) 0)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems_list, ownBufs_list]
  unfold bkit task
  iintro ⟨#Hlv, ⟨⟨%κ, #Hinv⟩, Htoks, #Hrch, Hat, Hcred⟩, ⟨⟨Ht, Hi, Htodo⟩, Hsh⟩, ⟨Hbufs, Hob⟩, ⟨⟨Hz7, Hz8, Hz9, Hz10, Hz11, Hz12, Hz13, Hz14, Hz15, Hs0, Hs1, Hs2, Hs3, Hs4⟩, Hos⟩, HO⟩
  have hO' : ∀ g, (O + oxV d (cV L)) g none = 0 := fun g => by rw [Pi.add_apply, Finsupp.add_apply, hO g, oxV_none]
  ihave #Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave #Hmw2 := (show levAts (K (F := F)).L (K (F := F)).lev ⊢ Transfers.MayWaits (V d (cV L) (jV L)) (default : HIx 1) O from
    (K (F := F)).mayWaits_none (thr := V d (cV L) (jV L)) hO) $$ Hlv
  -- the part filled
  iapply (fill_part d L T (O + oxV d (cV L)) W (qTile (cV L) (jV L))) $$ [Ht Hsh Hs0 Hs1 HO]
  · isplitl [Ht]; · iexact Ht
    isplitl [Hsh]; · iexact Hsh
    isplitl [Hs0]; · iexact Hs0
    isplitl [Hs1]; · iexact Hs1
    unfold ledger
    isplitr; · iexact Hmw1
    iexists W; isplitr; · ipureintro; exact fun p hp => .inl hp
    iexact HO
  unfold ledger
  iintro ⟨Ht, Hsh, Hs0, Hs1, -, %W1, %hW1, HO⟩
  -- the barrier
  ihave Hpays := (pays_intro d L T) $$ Hsh
  iapply (SparseCore.wp_subcoreBarrier 𝒱₀ none EB (bRd T) d (sc := cV L) (i := jV L) sc_bar0 (grid0.bound 1) hsub0 (L 1) rfl κ (fun _ => 0) (jV L).val
      (fun j => bRd_mem₀ T d _ _ _) (fun _ => rfl) (bRd_expect T d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd T) (g := bcell d (cV L) (jV L)) (Set.mem_univ (κ _)) (fun h => h) (bRd_duties_succ T _)) $$ [Hat] with Hbar
  · isplitr
    · iapply (SparseCore.ent (bigSep_elim (Φ := fun j : Fin (grid0.bound 1) =>
        (cellInv EB (bRd T) (κ (bcell d (cV L) (j.castLE hsub0))) (bcell d (cV L) (j.castLE hsub0)) : sProp 𝕄)) (Finset.mem_univ (L 1)))); iexact Hinv
    · iexact Hat
  ihave Htab := (pays_elim d L T) $$ Hgot
  -- what follows it
  iapply (wp_wand) $$ [Hbufs Hz7 Hz8 Hz9 Hz10 Hz11 Hz12 Hz13 Hz14 Hz15 Hs2 Hs3 Hs4 Hi Htab Htodo HO]
  · iapply (lookUp_step d L X T O W hX)
    isplitl [Hbufs Hz7 Hz8 Hz9 Hz10 Hz11 Hz12 Hz13 Hz14 Hz15 Hs2 Hs3 Hs4]
    · unfold pool
      isplitl [Hbufs]; · iexact Hbufs
      isplitr [Hs2 Hs3 Hs4]
      · isplitl [Hz7]; · iexact Hz7
        isplitl [Hz8]; · iexact Hz8
        isplitl [Hz9]; · iexact Hz9
        isplitl [Hz10]; · iexact Hz10
        isplitl [Hz11]; · iexact Hz11
        isplitl [Hz12]; · iexact Hz12
        isplitl [Hz13]; · iexact Hz13
        isplitl [Hz14] <;> iassumption
      isplitl [Hs2]; · iexact Hs2
      isplitl [Hs3] <;> iassumption
    isplitl [Hi]; · iexact Hi
    isplitl [Htab]; · iexact Htab
    isplitl [Htodo]; · iexact Htodo
    unfold ledger
    isplitr; · iexact Hmw2
    iexists _; isplitr
    swap; · iexact HO
    ipureintro; intro p hp
    rcases Finset.mem_insert.mp hp with hp | hp
    · exact .inr (.inr (hp ▸ rfl))
    · exact hW1 p hp
  iintro %u
  unfold pool ledger
  iintro ⟨⟨Hbufs, ⟨Hz7, Hz8, Hz9, Hz10, Hz11, Hz12, Hz13, Hz14, Hz15⟩, Hs2, Hs3, Hs4⟩, Hi, Htab, Hdone, -, HO⟩
  isplitl [Ht Hi Hdone Htab Hbar]
  · isplitl [Ht Hi Hdone]
    · isplitl [Ht]; · iexact Ht
      isplitl [Hi] <;> iassumption
    isplitl [Htab] <;> iassumption
  isplitl [Hbufs Hob]
  · isplitl [Hbufs] <;> iassumption
  isplitr [HO]
  swap; · iexact HO
  isplitr [Hos]
  swap; · iexact Hos
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  isplitl [Hz15]; · iexact Hz15
  isplitl [Hs0]; · iexact Hs0
  isplitl [Hs1]; · iexact Hs1
  isplitl [Hs2]; · iexact Hs2
  isplitl [Hs3] <;> iassumption

end Cert.Proof.Look

end
-- ==== Proof.Pays.lean ====
/-
  What the call's handshakes carry: to each subcore its shares of the table and of the index array, its 200 chunks of the
  result and its part of the shared copy; back from it the chunks looked up. And each subcore's obligation.
-/
module

public import proofs.«01_k».proof.Proof.Tile

@[expose] public section

noncomputable section

namespace Cert.Proof.Look

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (X : Dev nD → IdxArr F) (T : Dev nD → TabArr F)

/-- Subcore `(c, i)`'s chunks of the result at any contents. -/
def before (d : Dev nD) (c : Fin τ.nSC) (i : Fin τ.nSub) : sProp 𝕄 :=
  bigSep (Finset.Ico 0 200) fun k => (todo d (chunk0 c.val i.val + k) : sProp 𝕄)
/-- The same looked up. -/
def after (d : Dev nD) (c : Fin τ.nSC) (i : Fin τ.nSub) : sProp 𝕄 :=
  bigSep (Finset.range 200) fun k => done d (X d) T (chunk0 c.val i.val + k)
/-- What a subcore is handed of the arrays, and what it hands back. -/
def given (d : Dev nD) (c : Fin τ.nSC) (i : Fin τ.nSub) : sProp 𝕄 :=
  iprop((tLoc d ↦{qTile c i} (T d : Buf (Elt F) (tLoc d))) ∗ idxAt d (X d) (qTile c i) ∗ before d c i)
def found (d : Dev nD) (c : Fin τ.nSC) (i : Fin τ.nSub) : sProp 𝕄 :=
  iprop((tLoc d ↦{qTile c i} (T d : Buf (Elt F) (tLoc d))) ∗ idxAt d (X d) (qTile c i) ∗ after X T d c i)
/-- Its part of the shared copy at any contents. -/
def part (d : Dev nD) (c : Fin τ.nSC) (i : Fin τ.nSub) : sProp 𝕄 :=
  iprop(∃ f : Buf (Elt F) (shLoc d c), shLoc d c ↦[partSet i.val]{fullShare} f)
/-- The barrier semaphores of SparseCore `c`'s subcores, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

instance before_storable (d : Dev nD) (c : Fin τ.nSC) (i : Fin τ.nSub) : BI.Storable (upEmb : UEmb _ 𝕄) (before (F := F) d c i) := by
  unfold before todo; infer_instance
instance given_storable (d : Dev nD) (c : Fin τ.nSC) (i : Fin τ.nSub) : BI.Storable (upEmb : UEmb _ 𝕄) (given X T d c i) := by
  unfold given idxAt; infer_instance
instance found_storable (d : Dev nD) (c : Fin τ.nSC) (i : Fin τ.nSub) : BI.Storable (upEmb : UEmb _ 𝕄) (found X T d c i) := by
  unfold found after idxAt done; infer_instance
instance part_storable (d : Dev nD) (c : Fin τ.nSC) (i : Fin τ.nSub) : BI.Storable (upEmb : UEmb _ 𝕄) (part (F := F) d c i) := by
  unfold part; infer_instance
instance tabAt_storable (d : Dev nD) (c : Fin τ.nSC) (q : PosShare TreeShare) : BI.Storable (upEmb : UEmb _ 𝕄) (tabAt d c T q) := by
  unfold tabAt; infer_instance

set_option backward.proofsInPublic true in
/-- The call takes every subcore's arrays and brings them back looked up, with the barrier semaphores closed at zero; each
    task is handed its part of the shared copy too and hands back a share of the whole copy; its proof consumes its barrier
    kit, and every subcore owes its arrivals at the barrier. -/
def P : (K (F := F)).Pay (nD := nD) (Val := Elt F) (Name := ℕ) (U := UU) where
  st := fun q d c => match q with
    | 0 => bigSep Finset.univ fun i : Fin ((K (F := F)).nSub 0) => given X T d (coreOf c) ((K (F := F)).sub 0 i)
  dn := fun q d c => match q with
    | 0 => iprop((bigSep Finset.univ fun i : Fin ((K (F := F)).nSub 0) => found X T d (coreOf c) ((K (F := F)).sub 0 i)) ∗ bars d c)
  go := fun q d c i => match q with
    | 0 => iprop(given X T d (coreOf c) ((K (F := F)).sub 0 i) ∗ part d (coreOf c) ((K (F := F)).sub 0 i))
  td := fun q d c i => match q with
    | 0 => iprop(found X T d (coreOf c) ((K (F := F)).sub 0 i) ∗ tabAt d (coreOf c) T (qSh ((K (F := F)).sub 0 i))
        ∗ semVal (bcell d (coreOf c) ((K (F := F)).sub 0 i)) 0)
  x := fun _ thr => match thr with
    | (d, .scVector c i) => bkit T d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P X T).IsStorable where
  st q d c := match q with
    | 0 => (inferInstance : BI.Storable (upEmb : UEmb _ 𝕄) (bigSep Finset.univ fun i : Fin ((K (F := F)).nSub 0) => given X T d (coreOf c) ((K (F := F)).sub 0 i)))
  dn q d c := match q with
    | 0 => (inferInstance : BI.Storable (upEmb : UEmb _ 𝕄)
      iprop((bigSep Finset.univ fun i : Fin ((K (F := F)).nSub 0) => found X T d (coreOf c) ((K (F := F)).sub 0 i)) ∗ bars d c))
  go q d c i := match q with
    | 0 => (inferInstance : BI.Storable (upEmb : UEmb _ 𝕄) iprop(given X T d (coreOf c) ((K (F := F)).sub 0 i) ∗ part d (coreOf c) ((K (F := F)).sub 0 i)))
  td q d c i := match q with
    | 0 => (inferInstance : BI.Storable (upEmb : UEmb _ 𝕄)
      iprop(found X T d (coreOf c) ((K (F := F)).sub 0 i) ∗ tabAt d (coreOf c) T (qSh ((K (F := F)).sub 0 i)) ∗ semVal _ 0))

/-! ## The obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          tV (Memref.isWhole_whole _) iV (Memref.isWhole_whole _) oV (Memref.isWhole_whole _) shV (Memref.isWhole_whole _)
          ib0 (Memref.isWhole_whole _) ib1 (Memref.isWhole_whole _) ib2 (Memref.isWhole_whole _)
          rb0 (Memref.isWhole_whole _) rb1 (Memref.isWhole_whole _) rb2 (Memref.isWhole_whole _)
          cc0_scratch7 cc0_scratch8 cc0_scratch9 cc0_scratch10 cc0_scratch11 cc0_scratch12 cc0_scratch13 cc0_scratch14 cc0_scratch15
          cc0_scoped0 cc0_scoped1 cc0_scoped2 cc0_scoped3 cc0_scoped4) ⟨⟩ c s := rfl

set_option maxRecDepth 16384 in
theorem tileObl (hX : ∀ d, Ranged (X d)) (hF : (K (F := F)).Facts) : (K (F := F)).TileObl (D (F := F)) 𝒱 (P X T) v₀ 0 := by
  intro d c i O W hO hOlev _
  have hci : ((K (F := F)).core 0 c).val < grid0.bound 0 ∧ ((K (F := F)).sub 0 i).val < grid0.bound 1 := ⟨c.isLt, i.isLt⟩
  rw [show (P X T).ox 0 (V d ((K (F := F)).core 0 c) ((K (F := F)).sub 0 i)) = oxV d ((K (F := F)).core 0 c) from rfl,
    show (P X T).x 0 (V d ((K (F := F)).core 0 c) ((K (F := F)).sub 0 i)) = bkit T d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [task_eq]
  exact tile_body d (coordsV ⟨_, hci.1⟩ ⟨_, hci.2⟩) (X d) T O W hF (hX d) hO hOlev

end Cert.Proof.Look

end
-- ==== Proof.Launch.lean ====
/-
  The launch: how a sequencer cuts its shared copy among its subcores and joins it again, and how the certificate's ghost
  state deals every subcore its barrier kit.
-/
module

public import proofs.«01_k».proof.Proof.Pays

@[expose] public section

noncomputable section

namespace Cert.Proof.Look

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (X : Dev nD → IdxArr F) (T : Dev nD → TabArr F)

/-! ## The shared copy splits and joins -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem shared_parts (d : Dev nD) (c : Fin τ.nSC) (f : Buf (Elt F) (shLoc d c)) :
    (shLoc d c ↦{fullShare} f : sProp 𝕄) = bigSep Finset.univ fun i : Fin 16 => shLoc d c ↦[partSet i.val]{fullShare} f := by
  rw [← pointsTo_biUnion Finset.univ (ℓ := shLoc d c) (fun i : Fin 16 => partSet i.val)
    (fun i _ j _ h => partSet_disjoint fun e => h (Fin.ext e)), partSet_cover]; try rfl

/-- The shared copy whole is every subcore's part at some contents. -/
theorem parts_intro (d : Dev nD) (c : Fin ((K (F := F)).nCore 0)) (f : Buf (Elt F) (shLoc d (coreOf c))) :
    (shLoc d (coreOf c) ↦{fullShare} f : sProp 𝕄)
      ⊢ bigSep Finset.univ fun i : Fin ((K (F := F)).nSub 0) => part (F := F) d (coreOf c) ((K (F := F)).sub 0 i) := by
  show _ ⊢ bigSep Finset.univ fun i : Fin ((K (F := F)).nSub 0) => part (F := F) d (coreOf c) (Fin.cast nSub_zero i)
  rw [bigSep_tasks (F := F) (fun i => part (F := F) d (coreOf c) i), shared_parts]
  unfold part
  exact bigSep_mono fun i _ => BI.BIClass.exists_intro (Φ := fun f : Buf (Elt F) (shLoc d (coreOf c)) => (shLoc d (coreOf c) ↦[partSet i.val]{fullShare} f : sProp 𝕄)) f

/-- Every subcore's share of the shared copy is the copy whole. -/
theorem shares_join (d : Dev nD) (c : Fin ((K (F := F)).nCore 0)) :
    (bigSep Finset.univ fun i : Fin ((K (F := F)).nSub 0) => tabAt d (coreOf c) T (qSh ((K (F := F)).sub 0 i)))
      ⊢ (iprop(∃ f, shLoc d (coreOf c) ↦{fullShare} f) : sProp 𝕄) := by
  show (bigSep Finset.univ fun i : Fin ((K (F := F)).nSub 0) => tabAt d (coreOf c) T (qSh (Fin.cast nSub_zero i))) ⊢ _
  rw [bigSep_tasks (F := F) (fun i => tabAt d (coreOf c) T (qSh i))]
  unfold tabAt qSh
  iintro H
  iexists (T d : Buf (Elt F) (shLoc d (coreOf c)))
  iapply (Entails.of_eq (pointsTo_piecesOf (ℓ := shLoc d (coreOf c)) Finset.univ (T d : Buf (Elt F) (shLoc d (coreOf c))) (o := 16) (by decide) fullShare).symm)
  iexact H

/-- The shared copy is among the sequencer's own buffers. -/
theorem ownBufs_seq (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem vecSplit : (K (F := F)).VecSplit (P X T) 0 := by
  intro d c
  show iprop((bigSep Finset.univ fun i : Fin ((K (F := F)).nSub 0) => given X T d (coreOf c) ((K (F := F)).sub 0 i)) ∗ ownBufs (S d (coreOf c)))
    ⊢ |={Set.univ}=> iprop(
      (bigSep Finset.univ fun i : Fin ((K (F := F)).nSub 0) => iprop(given X T d (coreOf c) ((K (F := F)).sub 0 i) ∗ part d (coreOf c) ((K (F := F)).sub 0 i)))
      ∗ ((bigSep Finset.univ fun i : Fin ((K (F := F)).nSub 0) => iprop(found X T d (coreOf c) ((K (F := F)).sub 0 i)
            ∗ tabAt d (coreOf c) T (qSh ((K (F := F)).sub 0 i)) ∗ semVal (bcell d (coreOf c) ((K (F := F)).sub 0 i)) 0))
          -∗ iprop(((bigSep Finset.univ fun i : Fin ((K (F := F)).nSub 0) => found X T d (coreOf c) ((K (F := F)).sub 0 i)) ∗ bars d c)
            ∗ ownBufs (S d (coreOf c)))))
  rw [bigSep_sep', bigSep_sep', bigSep_sep', ownBufs_seq]
  iintro ⟨Hg, ⟨%f, Hsh⟩, Hrest⟩; imodintro
  isplitl [Hg Hsh]
  · isplitl [Hg]; · iexact Hg
    iapply (parts_intro d c f); iexact Hsh
  iintro ⟨Hf, Ht, Hb⟩
  isplitl [Hf Hb]
  · isplitl [Hf] <;> iassumption
  isplitl [Ht]
  · iapply (shares_join T d c); iexact Ht
  iexact Hrest

/-! ## The launch element of the ghost state, and what it hands over -/

abbrev DCI : Type := Dev nD × Fin τ.nSC × Fin τ.nSub
abbrev bcell₃ (x : DCI) : GSem nD τ sig := bcell x.1 x.2.1 x.2.2

/-- Every subcore's barrier cell. -/
def bCells : Finset (GSem nD τ sig) := (Finset.univ : Finset DCI).image bcell₃
/-- A subcore's token in each cell of its SparseCore. -/
def bToks : Finset (GSem nD τ sig × ℕ × ℕ) :=
  (Finset.univ : Finset (DCI × Fin (grid0.bound 1))).image fun x => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun dci _ => ?_)
  exact bigSep_elim (Φ := fun sm : SemLoc sig => (semVal (V dci.1 dci.2.1 dci.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ dci)⟩)

/-- The barrier cells' invariants, allocated at once. -/
theorem invs_b : iprop((bigSep bCells fun g => (semVal g 0 : sProp 𝕄)) ∗ bigSep bCells fun g => roundState EB (bRd T) g 0)
    ⊢ |={Set.univ}=> iprop(∃ κ : GSem nD τ sig → ℕ, bigSep bCells fun g => cellInv EB (bRd T) (κ g) g) := by
  refine (Rounds.bodies_intro EB (bRd T) bCells).trans ((inv_alloc_family bCells (Rounds.body EB (bRd T)) ∅ (E := Set.univ)).trans ?_)
  iintro H
  imod H with ⟨%κ, -, Hinv⟩
  imodintro; iexists κ; iexact Hinv

theorem sum_tallyAt_const (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for what the subcores owe, regrouped by the cell it is for. -/
theorem creds_b : ((P X T).oxCred : sProp 𝕄) ⊢ bigSep Finset.univ fun x : DCI => cred (tallyAt (bcell₃ x) (some 0) (grid0.bound 1)) := by
  unfold SparseCore.Cfg.Pay.oxCred
  rw [SparseCore.Cfg.bigSep_threads (fun thr : Thread nD τ => (cred ((P X T).oxFrom 0 thr) : sProp 𝕄))]
  refine sep_elim_right.trans (sep_elim_right.trans ?_)
  rw [bigSep_univ_prod, bigSep_univ_prod (fun x : DCI => (cred (tallyAt (bcell₃ x) (some 0) (grid0.bound 1)) : sProp 𝕄))]
  refine bigSep_mono fun d _ => ?_
  rw [bigSep_univ_prod, bigSep_univ_prod (fun y : Fin τ.nSC × Fin τ.nSub => (cred (tallyAt (bcell₃ (d, y)) (some 0) (grid0.bound 1)) : sProp 𝕄))]
  refine bigSep_mono fun c _ => ?_
  dsimp only
  have hox : ∀ i, (P X T).oxFrom 0 (V d c i) = oxV d c := fun i => by
    rw [show (0 : ℕ) = (0 : Fin 1).val from rfl, (P X T).oxFrom_step, (P X T).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_const]; rfl

theorem toks_eq : (bigSep bToks fun x => (dutyTok EB x.1 x.2.1 x.2.2 : sProp 𝕄))
    = bigSep Finset.univ fun x : DCI => bigSep Finset.univ fun j : Fin (grid0.bound 1) => dutyTok EB (bcell x.1 x.2.1 (j.castLE hsub0)) 0 x.2.2.val := by
  unfold bToks
  rw [SparseCore.bigSep_image_of_injOn, bigSep_univ_prod]
  rintro ⟨⟨d, c, i⟩, j⟩ - ⟨⟨d', c', i'⟩, j'⟩ - e
  have hg := (Prod.mk.inj e).1
  have hi : i = i' := Fin.ext (Prod.mk.inj (Prod.mk.inj e).2).2
  obtain ⟨hd, hp⟩ := Prod.mk.inj (Prod.mk.inj hg).1
  obtain ⟨hc, hj⟩ := Proc.scVector.inj hp
  have hj' : j = j' := Fin.ext (congrArg Fin.val hj)
  rw [hi, show d = d' from hd, show c = c' from hc, hj']

/-- A persistent resource beside a big conjunction goes to each conjunct. -/
theorem bigSep_share {I : Type} [DecidableEq I] {R : sProp 𝕄} [BI.Persistent R] {s : Finset I} {Φ Ψ : I → sProp 𝕄}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a); isplitr; · iexact HR
      iexact H1
    · iapply ih; isplitr; · iexact HR
      iexact H2

/-- What every subcore is handed alike: every barrier cell's invariant, and that each has reached round 0. -/
abbrev alike : sProp 𝕄 :=
  iprop((∃ κ : GSem nD τ sig → ℕ, bigSep Finset.univ fun x : DCI => cellInv EB (bRd T) (κ (bcell₃ x)) (bcell₃ x))
    ∗ bigSep Finset.univ fun x : DCI => reached EB (bcell₃ x) 0)
/-- What each is handed of its own: its position, its tokens, its credit. -/
abbrev mine (x : DCI) : sProp 𝕄 :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

/-- One subcore's kit out of those. -/
theorem kit_intro (x : DCI) : iprop(alike T ∗ mine x) ⊢ (bkit T x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (SparseCore.ent (bigSep_share (s := (Finset.univ : Finset (Fin (grid0.bound 1)))) (Φ := fun _ => iprop(emp))
      (R := bigSep Finset.univ fun x : DCI => cellInv EB (bRd T) (κ (bcell₃ x)) (bcell₃ x)) fun j =>
        sep_elim_left.trans (bigSep_elim (Φ := fun x : DCI => (cellInv EB (bRd T) (κ (bcell₃ x)) (bcell₃ x) : sProp 𝕄))
          (Finset.mem_univ ((d, c, Fin.castLE hsub0 j) : DCI)))))
    isplitl; · iexact Hinv
    rw [bigSep_emp']; iempintro
  isplitl [Htok]; · iexact Htok
  isplitr
  · iapply (SparseCore.ent (bigSep_share (s := (Finset.univ : Finset (Fin (grid0.bound 1)))) (Φ := fun _ => iprop(emp))
      (R := bigSep Finset.univ fun x : DCI => reached EB (bcell₃ x) 0) fun j =>
        sep_elim_left.trans (bigSep_elim (Φ := fun x : DCI => (reached EB (bcell₃ x) 0 : sProp 𝕄)) (Finset.mem_univ ((d, c, Fin.castLE hsub0 j) : DCI)))))
    isplitl; · iexact Hr
    rw [bigSep_emp']; iempintro
  isplitl [Hat] <;> iassumption

theorem Px_T (d : Dev nD) : (bigSep Finset.univ fun q : Fin 1 => (P X T).x q (SparseCore.T d)) = iprop(emp) :=
  bigSep_univ_of_subsingleton (0 : Fin 1)
theorem Px_S (d : Dev nD) (c : Fin τ.nSC) : (bigSep Finset.univ fun q : Fin 1 => (P X T).x q (S d c)) = iprop(emp) :=
  bigSep_univ_of_subsingleton (0 : Fin 1)
theorem Px_V (d : Dev nD) (c : Fin τ.nSC) (i : Fin τ.nSub) : (bigSep Finset.univ fun q : Fin 1 => (P X T).x q (V d c i)) = bkit T d c i :=
  bigSep_univ_of_subsingleton (0 : Fin 1)

/-- Every subcore its kit. -/
theorem kits_deal :
    iprop(alike T ∗ (bigSep Finset.univ fun x : DCI => atPos EB (bcell₃ x) 0 ∅ 0)
        ∗ (bigSep Finset.univ fun x : DCI => bigSep Finset.univ fun j : Fin (grid0.bound 1) => dutyTok EB (bcell x.1 x.2.1 (j.castLE hsub0)) 0 x.2.2.val)
        ∗ (bigSep Finset.univ fun x : DCI => cred (tallyAt (bcell₃ x) (some 0) (grid0.bound 1))))
      ⊢ (bigSep Finset.univ fun thr : Thread nD τ => bigSep Finset.univ fun q : Fin 1 => (P X T).x q thr : sProp 𝕄) := by
  rw [SparseCore.Cfg.bigSep_threads (fun thr : Thread nD τ => bigSep Finset.univ fun q : Fin 1 => (P X T).x q thr)]
  simp only [Px_T, Px_S, Px_V, bigSep_emp']
  iintro ⟨#Hsh, Hat, Htok, Hcred⟩
  isplitr; · iempintro
  isplitr; · iempintro
  iapply (bigSep_share (R := alike T) (Φ := mine (F := F)) fun x => kit_intro T x)
  isplitr; · iexact Hsh
  unfold mine
  rw [bigSep_sep', bigSep_sep']
  isplitl [Hat]; · iexact Hat
  isplitl [Htok] <;> iassumption

theorem hu₀ : iprop(ownU (u₀ (F := F)) ∗ (P X T).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P X T).x q thr) : sProp 𝕄) := by
  unfold u₀
  iintro ⟨Hu, Hcred, Hfree⟩
  ihave H := (ownU_split _ _) $$ Hu
  icases H with ⟨HH, HB⟩
  imod (Rounds.fund EB (bRd T) bCells bToks) $$ HB with ⟨Hst, #Hr, Hat, Htok⟩
  ihave Hsems := (sems_b (F := F)) $$ Hfree
  imod (invs_b T) $$ [Hsems Hst] with ⟨%κ, #Hinv⟩
  · isplitl [Hsems] <;> iassumption
  ihave Hcred' := (creds_b X T) $$ Hcred
  ihave Hinv' := (Entails.of_eq (bCells_eq (F := F) fun g => cellInv EB (bRd T) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal X T)
  isplitr
  · isplitl; · iexists κ; iexact Hinv'
    iexact Hr'
  isplitl [Hat']; · iexact Hat'
  isplitl [Htok'] <;> iassumption

end Cert.Proof.Look

end
-- ==== Proof.Arrays.lean ====
/-
  The arrays that @main hands the call, cut among the subcores, and what comes back joined again.
-/
module

public import proofs.«01_k».proof.Proof.Launch

@[expose] public section

noncomputable section

namespace Cert.Proof.Look

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays split among the subcores -/

/-- The chunks' numbers. -/
@[irreducible] def chunkNums : Finset ℕ := Finset.range 6400

theorem chunkNums_eq : chunkNums = Finset.range 6400 := by unfold chunkNums; rfl

theorem chunks_eq (Φ : ℕ → sProp 𝕄) :
    bigSep chunkNums Φ
      = bigSep Finset.univ fun c : Fin 2 => bigSep Finset.univ fun i : Fin 16 => bigSep (Finset.range 200) fun k => Φ (chunk0 c.val i.val + k) := by
  have hs : chunkNums = ((Finset.univ : Finset (Fin 2 × Fin 16)) ×ˢ Finset.range 200).image (fun x => chunk0 x.1.1.val x.1.2.val + x.2) := by
    rw [chunkNums_eq]
    ext n
    simp only [Finset.mem_range, Finset.mem_image, Finset.mem_product, Finset.mem_univ, true_and, Prod.exists, chunk0]
    constructor
    · intro h
      exact ⟨⟨n / 200 % 2, Nat.mod_lt _ (by decide)⟩, ⟨n / 400, by omega⟩, n % 200, Nat.mod_lt _ (by decide), by show 400 * (n / 400) + 200 * (n / 200 % 2) + n % 200 = n; omega⟩
    · rintro ⟨c, i, k, hk, rfl⟩
      have := c.isLt; have := i.isLt
      omega
  rw [hs, SparseCore.bigSep_image_of_injOn, SparseCore.bigSep_product, bigSep_univ_prod]
  rintro ⟨⟨c, i⟩, k⟩ hx ⟨⟨c', i'⟩, k'⟩ hx' e
  have hk := Finset.mem_range.mp (Finset.mem_product.mp (Finset.mem_coe.mp hx)).2
  have hk' := Finset.mem_range.mp (Finset.mem_product.mp (Finset.mem_coe.mp hx')).2
  have hc := c.isLt; have hc' := c'.isLt
  simp only [chunk0] at e hk hk'
  have h1 : i.val = i'.val := by omega
  have h2 : c.val = c'.val := by omega
  have h3 : k = k' := by omega
  rw [Fin.ext h1, Fin.ext h2, h3]

theorem out_chunks (d : Dev nD) (f : Buf (Elt F) (oLoc d)) :
    (oLoc d ↦{fullShare} f : sProp 𝕄) = bigSep chunkNums fun n => oLoc d ↦[chunkSet n]{fullShare} f := by
  have hc : chunkNums.biUnion chunkSet = Finset.univ := by
    refine Finset.eq_univ_iff_forall.mpr fun o => ?_
    rw [Finset.mem_biUnion]
    refine ⟨(o 0).val / 128, ?_, mem_chunkSet.mpr rfl⟩
    rw [chunkNums_eq, Finset.mem_range]
    have h : (o 0).val < 819200 := (o 0).isLt
    omega
  rw [← pointsTo_biUnion chunkNums (ℓ := oLoc d) chunkSet (fun i _ j _ h => chunkSet_disjoint h), hc]; try rfl

/-- An array whole is every subcore's share of it. -/
theorem shares_eq (ℓ : Loc nD τ sig) (f : Buf (Elt F) ℓ) :
    (ℓ ↦{fullShare} f : sProp 𝕄) = bigSep Finset.univ fun c : Fin 2 => bigSep Finset.univ fun i : Fin 16 => ℓ ↦{qTile c i} f := by
  refine (pointsTo_piecesOf (ℓ := ℓ) Finset.univ f (o := 2) (by decide) fullShare).trans (bigSep_congr fun c _ => ?_)
  exact pointsTo_piecesOf (ℓ := ℓ) Finset.univ f (o := 16) (by decide) _

variable (X : Dev nD → IdxArr F) (T : Dev nD → TabArr F)

/-- The arrays the call takes. -/
theorem st0_eq (d : Dev nD) : (bigSep Finset.univ fun c : Fin ((K (F := F)).nCore 0) => (P X T).st 0 d c)
    = iprop((tLoc d ↦{fullShare} (T d : Buf (Elt F) (tLoc d))) ∗ (iLoc d ↦{fullShare} (X d : Buf (Elt F) (iLoc d)))
        ∗ bigSep chunkNums fun n => (todo d n : sProp 𝕄)) := by
  show (bigSep Finset.univ fun c : Fin 2 => bigSep Finset.univ fun i : Fin 16 => given X T d c i) = _
  unfold given before idxAt
  rw [chunks_eq, shares_eq (tLoc d), shares_eq (iLoc d), ← bigSep_sep', ← bigSep_sep']
  refine bigSep_congr fun c _ => ?_
  rw [bigSep_sep', bigSep_sep', Finset.range_eq_Ico]

/-- The arrays it brings back. -/
theorem dn0_eq (d : Dev nD) : (bigSep Finset.univ fun c : Fin ((K (F := F)).nCore 0) => (P X T).dn 0 d c)
    = iprop(((tLoc d ↦{fullShare} (T d : Buf (Elt F) (tLoc d))) ∗ (iLoc d ↦{fullShare} (X d : Buf (Elt F) (iLoc d)))
        ∗ (oLoc d ↦{fullShare} (lookup (X d) (T d) : Buf (Elt F) (oLoc d))))
      ∗ bigSep Finset.univ fun c : Fin ((K (F := F)).nCore 0) => bars d c) := by
  show (bigSep Finset.univ fun c : Fin 2 => iprop((bigSep Finset.univ fun i : Fin 16 => found X T d c i) ∗ bars (F := F) d c)) = _
  rw [bigSep_sep']
  refine congrArg (fun p : sProp 𝕄 => iprop(p ∗ _)) ?_
  unfold found after idxAt done
  rw [out_chunks, chunks_eq, shares_eq (tLoc d), shares_eq (iLoc d), ← bigSep_sep', ← bigSep_sep']
  refine bigSep_congr fun c _ => ?_
  rw [bigSep_sep', bigSep_sep']

/-- The result's buffer is every chunk at some contents. -/
theorem todo_all (d : Dev nD) (f : Buf (Elt F) (oLoc d)) :
    (oLoc d ↦{fullShare} f : sProp 𝕄) ⊢ bigSep chunkNums fun n => (todo d n : sProp 𝕄) := by
  rw [out_chunks]
  exact bigSep_mono fun n _ => BI.BIClass.exists_intro (Φ := fun f : Buf (Elt F) (oLoc d) => (oLoc d ↦[chunkSet n]{fullShare} f : sProp 𝕄)) f

/-- What the call takes, out of the three arrays whole. -/
theorem st0_intro (d : Dev nD) (f : Buf (Elt F) (oLoc d)) :
    iprop((tLoc d ↦{fullShare} (T d : Buf (Elt F) (tLoc d))) ∗ (iLoc d ↦{fullShare} (X d : Buf (Elt F) (iLoc d))) ∗ oLoc d ↦{fullShare} f)
      ⊢ bigSep Finset.univ fun c : Fin ((K (F := F)).nCore 0) => (P X T).st 0 d c := by
  rw [st0_eq]
  exact sep_mono_right (sep_mono_right (todo_all d f))

end Cert.Proof.Look

end
-- ==== Proof.Run.lean ====
/-
  The program's run: @main on the TensorCore reshapes the index array, makes the call and reshapes the rows it brings back;
  the run ends with the result looked up, the arguments unchanged and every semaphore at zero.
-/
module

public import proofs.«01_k».proof.Proof.Arrays

@[expose] public section

noncomputable section

namespace Cert.Proof.Look

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The table, the index array as the call reads it, and the result as @main returns it. -/
def Tm (d : Dev nD) : TabArr F := m (tLoc d)
def Xm (d : Dev nD) : IdxArr F := shapeCast S6400x128 (m (aLoc d) : S4096x200.Idx → Elt F .i32) shapeCasts_S4096x200_S6400x128
def Rm (d : Dev nD) : S4096x200x128.Idx → Elt F .f32 := shapeCast S4096x200x128 (lookup (Xm m d) (Tm m d)) shapeCasts_S819200x128_S4096x200x128

variable [FloatOps F]

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.i32 : EltTy) = .i32) shapeCasts_S4096x200_S6400x128
abbrev opOut : HloOp τ sig (Elt F) := StableHlo.reshape main_v1 main_v2 (rfl : (.f32 : EltTy) = .f32) shapeCasts_S819200x128_S4096x200x128

/-- The TensorCore's arrays. -/
abbrev S5 : Finset (DevRef τ sig) := {a', t', i', o', r'}

omit [FloatOps F] in
theorem held_S5 (d : Dev nD) (W : Valuation τ sig (Elt F)) :
    (held (T d) S5 W : sProp 𝕄)
      = iprop((aLoc d ↦{fullShare} W a') ∗ (tLoc d ↦{fullShare} W t') ∗ (iLoc d ↦{fullShare} W i') ∗ (oLoc d ↦{fullShare} W o') ∗ rLoc d ↦{fullShare} W r') := by
  unfold held S5
  rw [SparseCore.bigSep_insert' (by decide), SparseCore.bigSep_insert' (by decide), SparseCore.bigSep_insert' (by decide), SparseCore.bigSep_insert' (by decide),
    bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0) ∗ (oLoc d ↦{fullShare} W main_v1)
          ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide),
    bigSep_singleton]

/-- The launch valuation; with the index array reshaped; with the rows looked up; with the result. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (lookup (Xm m d) (Tm m d))
def V3 (d : Dev nD) : Valuation τ sig (Elt F) := (opOut (F := F)).result (V2 m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_of_ne (d : Dev nD) {b : DevRef τ sig} (h : b ∉ ({i'} : Finset (DevRef τ sig))) : V1 m d b = m (d, b) :=
  (opIn (F := F)).result_of_not_mem (V0 m d) (b := b) h
omit [FloatOps F] in
theorem V1_i (d : Dev nD) : V1 m d i' = Xm m d := StableHlo.reshape_result main_arg0 main_v0 _ _ _ _ (V0 m d)
omit [FloatOps F] in
theorem V2_o (d : Dev nD) : V2 m d o' = lookup (Xm m d) (Tm m d) := Function.update_self _ _ _
omit [FloatOps F] in
theorem V2_of_ne (d : Dev nD) {b : DevRef τ sig} (h : b ≠ o') : V2 m d b = V1 m d b := Function.update_of_ne h _ _
omit [FloatOps F] in
theorem V3_of_ne (d : Dev nD) {b : DevRef τ sig} (h : b ∉ ({r'} : Finset (DevRef τ sig))) : V3 m d b = V2 m d b :=
  (opOut (F := F)).result_of_not_mem (V2 m d) (b := b) h
omit [FloatOps F] in
theorem V3_r (d : Dev nD) : V3 m d r' = Rm m d := by
  refine (StableHlo.reshape_result main_v1 main_v2 _ _ _ _ (V2 m d)).trans ?_
  rw [V2_o]; rfl

theorem hIn : (opIn (F := F)).bufs ⊆ S5 := show ({a', i'} : Finset (DevRef τ sig)) ⊆ S5 by decide
theorem hOut : (opOut (F := F)).bufs ⊆ S5 := show ({o', r'} : Finset (DevRef τ sig)) ⊆ S5 by decide

/-- What @main leaves the claim: the arguments, the result, every barrier semaphore at zero. -/
abbrev FIN (d : Dev nD) : sProp 𝕄 :=
  iprop((aLoc d ↦{fullShare} m (aLoc d)) ∗ (tLoc d ↦{fullShare} m (tLoc d)) ∗ (rLoc d ↦{fullShare} (Rm m d : Buf (Elt F) (rLoc d)))
    ∗ bigSep Finset.univ fun c : Fin ((K (F := F)).nCore 0) => bars d c)

theorem held_V1 (d : Dev nD) : (held (T d) S5 ((opIn (F := F)).result (V0 m d)) : sProp 𝕄)
    = iprop((aLoc d ↦{fullShare} m (aLoc d)) ∗ (tLoc d ↦{fullShare} (Tm m d : Buf (Elt F) (tLoc d))) ∗ (iLoc d ↦{fullShare} (Xm m d : Buf (Elt F) (iLoc d)))
        ∗ (oLoc d ↦{fullShare} m (oLoc d)) ∗ rLoc d ↦{fullShare} m (rLoc d)) := by
  show held (T d) S5 (V1 m d) = _
  rw [held_S5, V1_i, V1_of_ne m d (b := a') (by decide), V1_of_ne m d (b := t') (by decide), V1_of_ne m d (b := o') (by decide), V1_of_ne m d (b := r') (by decide)]
  rfl

theorem held_V2 (d : Dev nD) : (held (T d) S5 (V2 m d) : sProp 𝕄)
    = iprop((aLoc d ↦{fullShare} m (aLoc d)) ∗ (tLoc d ↦{fullShare} (Tm m d : Buf (Elt F) (tLoc d))) ∗ (iLoc d ↦{fullShare} (Xm m d : Buf (Elt F) (iLoc d)))
        ∗ (oLoc d ↦{fullShare} (lookup (Xm m d) (Tm m d) : Buf (Elt F) (oLoc d))) ∗ rLoc d ↦{fullShare} m (rLoc d)) := by
  rw [held_S5, V2_o, V2_of_ne m d (b := a') (by decide), V2_of_ne m d (b := t') (by decide), V2_of_ne m d (b := i') (by decide), V2_of_ne m d (b := r') (by decide),
    V1_i, V1_of_ne m d (b := a') (by decide), V1_of_ne m d (b := t') (by decide), V1_of_ne m d (b := r') (by decide)]
  rfl

theorem held_V3 (d : Dev nD) : (held (T d) S5 ((opOut (F := F)).result (V2 m d)) : sProp 𝕄)
    = iprop((aLoc d ↦{fullShare} m (aLoc d)) ∗ (tLoc d ↦{fullShare} m (tLoc d)) ∗ (iLoc d ↦{fullShare} V3 m d i')
        ∗ (oLoc d ↦{fullShare} V3 m d o') ∗ rLoc d ↦{fullShare} (Rm m d : Buf (Elt F) (rLoc d))) := by
  show held (T d) S5 (V3 m d) = _
  rw [held_S5, V3_r, V3_of_ne m d (b := a') (by decide), V3_of_ne m d (b := t') (by decide), V2_of_ne m d (b := a') (by decide), V2_of_ne m d (b := t') (by decide),
    V1_of_ne m d (b := a') (by decide), V1_of_ne m d (b := t') (by decide)]

/-- @main on device `d`'s TensorCore. -/
theorem hmain (κ : GSem nD τ sig → ℕ) (d : Dev nD) :
    iprop((K (F := F)).ctx EH (P (Xm m) (Tm m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hi, Ho, Hr⟩
  iapply ((K (F := F)).wp_run (D (F := F)) 𝒱 (EH := EH) (P := P (Xm m) (Tm m)) κ d 0) $$ [Hst Ha Ht Hi Ho Hr Hb Hts]
  isplitr; · iexact Hctx
  isplitl [Hst]; · iexact Hst
  isplitl [Ht Hi Ho]
  · iapply (st0_intro (Xm m) (Tm m) d (m (oLoc d)))
    isplitl [Ht]; · iexact Ht
    isplitl [Hi] <;> iassumption
  iintro ⟨Hst, Hdn⟩
  ihave Hdn' := (Entails.of_eq (dn0_eq (Xm m) (Tm m) d)) $$ Hdn
  icases Hdn' with ⟨⟨Ht, Hi, Ho⟩, Hbars⟩
  iapply (wp_hlo_within 𝒱 (SparseCore.T d) none Set.univ (op := opOut) (S := S5) hOut (V := V2 m d)) $$ [Hb Ha Ht Hi Ho Hr]
  · isplitl [Hb]; · iexact Hb
    rw [held_V2]
    isplitl [Ha]; · iexact Ha
    isplitl [Ht]; · iexact Ht
    isplitl [Hi]; · iexact Hi
    isplitl [Ho] <;> iassumption
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitr [Hb Hts]
  · isplitl [Ha]; · iexact Ha
    isplitl [Ht]; · iexact Ht
    isplitl [Hr] <;> iassumption
  isplitl [Hb] <;> iassumption

/-! ## What the end shows -/

def fq (d : Dev nD) (s' : Phys nD τ sig (Elt F)) : Prop :=
  (s'.mem.mem (aLoc d) = m (aLoc d) ∧ s'.mem.mem (tLoc d) = m (tLoc d) ∧ s'.mem.mem (rLoc d) = (Rm m d : Buf (Elt F) (rLoc d)))
    ∧ ∀ (c : Fin ((K (F := F)).nCore 0)) (i : Fin ((K (F := F)).nSub 0)), s'.mem.sem (bcell d (coreOf c) ((K (F := F)).sub 0 i)) = 0

theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨⟨((sep_mono_left sep_elim_left).trans (read_whole _ _ s')) x hx,
      ((sep_mono_left (sep_elim_right.trans sep_elim_left)).trans (read_whole _ _ s')) x hx,
      ((sep_mono_left (sep_elim_right.trans (sep_elim_right.trans sep_elim_left))).trans (read_whole _ _ s')) x hx⟩, fun c i =>
    ((sep_mono_left (sep_elim_right.trans (sep_elim_right.trans (sep_elim_right.trans ((SparseCore.ent (bigSep_elim (Finset.mem_univ c))).trans
      (SparseCore.ent (bigSep_elim (Finset.mem_univ i)))))))).trans (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-- The run's end: the result, the arguments, the semaphores. -/
def QC : PUnit × MemSt nD τ sig (Elt F) → Prop := fun r =>
  (∀ c : Dev nD, r.2.mem (aLoc c) = m (aLoc c) ∧ r.2.mem (tLoc c) = m (tLoc c) ∧ r.2.mem (rLoc c) = (Rm m c : Buf (Elt F) (rLoc c))) ∧ r.2.sem = fun _ => 0

theorem run_main [∀ e, Nonempty (Elt F e)] (hX : ∀ d, Ranged (Xm m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xm m) (Tm m)) (hA := hA m) facts v₀
    (fun q hq => match q with | 0 => nomatch hq)
    (fun q _ => match q with | 0 => tileObl (Xm m) (Tm m) hX facts)
    (fun q _ => match q with | 0 => vecSplit (Xm m) (Tm m))
    m ρ main (fun _ => iprop(emp)) (FIN m) (u₀ (F := F)) (hu₀ (Xm m) (Tm m)) (hmain m ρ) (fq m) (hfin m) (QC m) (fun _ h hz => ⟨fun c => (h c).1, hz⟩)

end Cert.Proof.Look

end
-- ==== Proof.Match.lean ====
/-
  Why the kernel's result is the reference's. The precondition says that every index lies between 0 and 9999. The
  kernel's result at `(a, b, c)` is column `c` of the table row that index `(a, b)` names: its reshapes keep the row-major
  position. The reference's result is the same: no index is negative, so none is wrapped; none is too large, so the mask
  keeps every entry and the gather's clamp moves no row.
-/
module

public import proofs.«01_k».proof.Proof.Values
public import proofs.«01_k».proof.Proof.Gen.ReferenceIdeal
public import proofs.«01_k».proof.Proof.Gen.Pre_in_range
public import Idealize.ShloMosaic.Lib.ReduceAll
public import Idealize.ShloMosaic.Lib.Affine

@[expose] public section

noncomputable section

namespace Cert.Proof.Look

open Idealize.ShloMosaic
open Cert.ReferenceIdeal (S4096x200 S4096x200x1 S4096x200x128 S10000x128 S_ S1 S1x1x1)

variable {F : FTy → Type} [FloatOps F]

/-! ## The precondition -/

instance : Subsingleton Cert.Pre_in_range.S_.Idx := ⟨fun _ _ => funext fun a => a.elim0⟩

/-- The precondition, entry by entry. -/
theorem range_of_pre (x : S4096x200.Idx → BitVec 32) (t : FVec F S10000x128 .f32)
    (h : Cert.Pre_in_range.fn (F := F) x t = fun _ => 1#1) (p : S4096x200.Idx) : 0 ≤ (x p).toInt ∧ (x p).toInt < 10000 := by
  have hp := Host.reduce_andi_all _ _ _ _ _ (congrFun h (fun a => a.elim0)) p
  have hp' := IntOp.andi_eq_one.1 hp
  exact ⟨IntOp.cmpi_sge.1 hp'.1, IntOp.cmpi_slt.1 hp'.2⟩

/-- An index in range is the same number read with or without a sign. -/
theorem toNat_of_range {v : BitVec 32} (h : 0 ≤ v.toInt ∧ v.toInt < 10000) : v.toInt.toNat = v.toNat ∧ v.toNat < 10000 := by
  have h32 := v.isLt
  obtain ⟨h0, h1⟩ := h
  rw [BitVec.toInt_eq_toNat_cond] at h0 h1 ⊢
  split at h0 <;> omega

/-! ## The kernel's result at an index -/

section Kernel

open Cert.KernelIdeal (S6400x128 S819200x128)

/-- The two leading coordinates of a result index. -/
abbrev front (r : S4096x200x128.Idx) : S4096x200.Idx := pt (r 0).val (r 1).val

omit [FloatOps F] in
/-- The table row that index `(a, b)` names, read at column `c`. -/
theorem lookup_at (x : S4096x200.Idx → Elt F .i32) (T : TabArr F) (h : S4096x200.ShapeCasts S6400x128)
    (h' : S819200x128.ShapeCasts S4096x200x128) (r : S4096x200x128.Idx) :
    shapeCast S4096x200x128 (lookup (shapeCast S6400x128 x h) T) h' r = T (pt (x (front r)).toNat (r 2).val) := by
  have b0 : (r 0).val < 4096 := (r 0).isLt
  have b1 : (r 1).val < 200 := (r 1).isLt
  have b2 : (r 2).val < 128 := (r 2).isLt
  have e : Shape.reshapeEquiv h' r = (pt ((r 0).val * 200 + (r 1).val) (r 2).val : S819200x128.Idx) := by
    refine Shape.reshapeEquiv_eq_of_rowMajor _ ?_
    rw [Shape.rowMajor_val_two, Shape.rowMajor_val_three, pt_zero, pt_one]
    show ((r 0).val * 200 + (r 1).val) % 819200 * 128 + (r 2).val % 128 = ((r 0).val * 200 + (r 1).val) * 128 + (r 2).val
    omega
  have e' : Shape.reshapeEquiv h (pt (((r 0).val * 200 + (r 1).val) / 128) (((r 0).val * 200 + (r 1).val) % 128) : S6400x128.Idx) = front r := by
    refine Shape.reshapeEquiv_eq_of_rowMajor _ ?_
    rw [Shape.rowMajor_val_two, Shape.rowMajor_val_two, pt_zero, pt_one, pt_zero, pt_one]
    show (r 0).val % 4096 * 200 + (r 1).val % 200
      = ((r 0).val * 200 + (r 1).val) / 128 % 6400 * 128 + ((r 0).val * 200 + (r 1).val) % 128 % 128
    omega
  have c0 : ((r 0).val * 200 + (r 1).val) % 819200 = (r 0).val * 200 + (r 1).val := by omega
  have c1 : (r 2).val % 128 = (r 2).val := by omega
  show lookup (shapeCast S6400x128 x h) T (Shape.reshapeEquiv h' r) = _
  rw [e]
  unfold lookup shapeCast
  rw [pt_zero, pt_one, c0, c1, e']

end Kernel

/-! ## The reference's result at an index -/

section Reference

open Cert.ReferenceIdeal Cert.ReferenceIdeal.Gen

/-- Where the gather's start for a result index stands in its array of starts. -/
def startAt (r : S4096x200x128.Idx) : S4096x200x1.Idx :=
  fun | ⟨0, _⟩ => r 0 | ⟨1, _⟩ => r 1 | ⟨2, _⟩ => ⟨0, Nat.one_pos⟩

/-- The gather at an index: the start's row, clamped into the table, at the result's column. -/
theorem gather_at {α : Type} (T : S10000x128.Idx → α) (v : IVec S4096x200x1 32) (r : S4096x200x128.Idx) :
    Host.gather gather_S10000x128_S4096x200x1_S4096x200x128_2_0_n_n_0_2_1128 T v r
      = T (pt (min (v (startAt r)).toInt.toNat 9999) (r 2).val) := by
  refine congrArg T (ext2 ?_ ?_)
  · rw [pt_zero]
    show GatherDims.start _ r v 0 + GatherDims.batchCoord _ r 0 + GatherDims.offCoord _ r 0 = _
    rw [GatherDims.batchCoord_eq_zero _ _ _ List.not_mem_nil,
      GatherDims.offCoord_eq_zero _ _ _ fun h => ((GatherDims.mem_sKept _ _).1 h).1 (List.mem_singleton.2 rfl)]
    unfold GatherDims.start
    rw [dif_pos (show (0 : Fin 2) ∈ gather_S10000x128_S4096x200x1_S4096x200x128_2_0_n_n_0_2_1128.startIndexMap from List.mem_singleton.2 rfl)]
    have e : ∀ c, gather_S10000x128_S4096x200x1_S4096x200x128_2_0_n_n_0_2_1128.siIdx r c = startAt r := by
      intro c
      have hc : c.val = 0 := by have : c.val < 1 := c.isLt; omega
      funext b
      match b with
      | ⟨0, _⟩ => rfl
      | ⟨1, _⟩ => rfl
      | ⟨2, _⟩ => exact Fin.ext hc
    rw [e]
    show min (v (startAt r)).toInt.toNat 9999 + 0 + 0 = min (v (startAt r)).toInt.toNat 9999 % 10000
    omega
  · rw [pt_one]
    have b2 : (r 2).val < 128 := (r 2).isLt
    show 0 + 0 + (r 2).val = (r 2).val % 128
    omega

/-- The indices after the reference's wrap of negative ones. -/
abbrev wrapped (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 10000#32))) x

/-- No index in range is wrapped. -/
theorem wrapped_eq (x : IVec S4096x200 32) (h : ∀ p, 0 ≤ (x p).toInt ∧ (x p).toInt < 10000) : wrapped x = x := by
  funext p
  have hn : ¬ IntOp.cmpi .slt (x p) 0#32 = 1#1 := fun hc => by
    have h1 := IntOp.cmpi_slt.1 hc
    have h2 := (h p).1
    have h3 : (0#32 : BitVec 32).toInt = 0 := by decide
    omega
  exact if_neg hn

/-- The gather's starts. -/
abbrev starts (x : IVec S4096x200 32) : IVec S4096x200x1 32 :=
  broadcastInDim S4096x200x1 ![0, 1] bcast_S4096x200_S4096x200x1_0_1 (wrapped x)

/-- Every start is one of the indices. -/
theorem starts_mem (x : IVec S4096x200 32) (h : ∀ p, 0 ≤ (x p).toInt ∧ (x p).toInt < 10000) (q : S4096x200x1.Idx) :
    ∃ p, starts x q = x p := by
  have e : starts x = broadcastInDim S4096x200x1 ![0, 1] bcast_S4096x200_S4096x200x1_0_1 x := congrArg _ (wrapped_eq x h)
  rw [e]
  exact ⟨_, rfl⟩

theorem starts_at (x : IVec S4096x200 32) (h : ∀ p, 0 ≤ (x p).toInt ∧ (x p).toInt < 10000) (r : S4096x200x128.Idx) :
    starts x (startAt r) = x (front r) := by
  show wrapped x _ = _
  rw [wrapped_eq x h]
  have b0 : (r 0).val < 4096 := (r 0).isLt
  have b1 : (r 1).val < 200 := (r 1).isLt
  refine congrArg x (ext2 ?_ ?_)
  · rw [pt_zero]
    show (r 0).val = (r 0).val % 4096
    omega
  · rw [pt_one]
    show (r 1).val = (r 1).val % 200
    omega

/-- The mask the reference lays over the gathered rows. -/
abbrev mask (x : IVec S4096x200 32) : IVec S4096x200 1 :=
  Host.reduce IntOp.andi
    (andi (cmpi .sge (starts x) (broadcastInDim S4096x200x1 ![] bcast_S_S4096x200x1 (constantI S_ 32 0#32)))
      (cmpi .sle (starts x) (broadcastInDim S4096x200x1 ![0, 1, 2] bcast_S1x1x1_S4096x200x1_0_1_2
        (broadcastInDim S1x1x1 ![2] bcast_S1_S1x1x1_2 (constantI S1 32 9999#32)))))
    (constantI S_ 1 1#1) reducesTo_S4096x200x1_S4096x200_d2 h_S_

/-- The mask keeps every entry. -/
theorem mask_one (x : IVec S4096x200 32) (h : ∀ p, 0 ≤ (x p).toInt ∧ (x p).toInt < 10000) (p : S4096x200.Idx) : mask x p = 1#1 := by
  refine Host.reduce_andi_one _ _ _ _ _ rfl fun q => ?_
  obtain ⟨p, e⟩ := starts_mem x h q
  have h0 : (0#32 : BitVec 32).toInt = 0 := by decide
  have h9 : (9999#32 : BitVec 32).toInt = 9999 := by decide
  have hp := h p
  refine IntOp.andi_eq_one.2 ⟨IntOp.cmpi_sge.2 ?_, IntOp.cmpi_sle.2 ?_⟩
  · rw [e]
    show (0#32 : BitVec 32).toInt ≤ _
    omega
  · rw [e]
    show _ ≤ (9999#32 : BitVec 32).toInt
    omega

/-- A broadcast of an array that is `c` everywhere is `c` everywhere. -/
theorem broadcast_all {α : Type} {s t : Shape} (dims : Fin s.rank → Fin t.rank) (hb : s.BroadcastsInDim t dims) (z : s.Idx → α) (c : α)
    (hz : ∀ p, z p = c) (r : t.Idx) : broadcastInDim t dims hb z r = c := hz _

/-- A choice whose condition is true is its first array. -/
theorem select_on {α : Type} {s : Shape} (c : IVec s 1) (a b : s.Idx → α) (r : s.Idx) (h : c r = 1#1) : select c a b r = a r := if_pos h

/-- The reference's result as a term of its two arguments. -/
abbrev taken (x : IVec S4096x200 32) (T : FVec F S10000x128 .f32) : FVec F S4096x200x128 .f32 :=
  select (broadcastInDim S4096x200x128 ![0, 1] bcast_S4096x200_S4096x200x128_0_1 (mask x))
    (Host.gather gather_S10000x128_S4096x200x1_S4096x200x128_2_0_n_n_0_2_1128 T (starts x))
    (broadcastInDim S4096x200x128 ![] bcast_S_S4096x200x128 (constant S_ .f32 0x7FC00000#32))

theorem taken_at (x : IVec S4096x200 32) (T : FVec F S10000x128 .f32) (h : ∀ p, 0 ≤ (x p).toInt ∧ (x p).toInt < 10000)
    (r : S4096x200x128.Idx) : taken x T r = T (pt (x (front r)).toNat (r 2).val) := by
  have hm : broadcastInDim S4096x200x128 ![0, 1] bcast_S4096x200_S4096x200x128_0_1 (mask x) r = 1#1 :=
    broadcast_all _ _ _ _ (mask_one x h) r
  obtain ⟨e, l⟩ := toNat_of_range (h (front r))
  have hc : min (x (front r)).toInt.toNat 9999 = (x (front r)).toNat := by rw [e]; exact Nat.min_eq_left (Nat.le_of_lt_succ l)
  have hg := gather_at T (starts x) r
  rw [starts_at x h, hc] at hg
  exact (select_on _ _ _ _ hm).trans hg

end Reference

/-- In range, what the kernel looks up is what the reference takes. -/
theorem lookup_eq_taken (x : S4096x200.Idx → Elt F .i32) (T : TabArr F)
    (h : S4096x200.ShapeCasts Cert.KernelIdeal.S6400x128) (h' : Cert.KernelIdeal.S819200x128.ShapeCasts S4096x200x128)
    (hx : ∀ p, 0 ≤ (x p : BitVec 32).toInt ∧ (x p : BitVec 32).toInt < 10000) :
    shapeCast S4096x200x128 (lookup (shapeCast Cert.KernelIdeal.S6400x128 x h) T) h' = taken x T :=
  funext fun r => (lookup_at x T h h' r).trans (taken_at x T hx r).symm

end Cert.Proof.Look

end
-- ==== Proof.lean ====
/-
  The certificate: the kernel's run (Proof/Run.lean, over any floats) gives the two frames of the kernel, the generated run
  of the reference gives the reference's, and Proof/Match.lean says that the two results are one.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import Idealize.ShloMosaic.Lib.Quiescent
public import proofs.«01_k».proof.Proof.Run
public import proofs.«01_k».proof.Proof.Match

@[expose] public section

noncomputable section

namespace Cert.Proof

open Idealize.ShloMosaic Idealize.SL.Sem

/-! ## The precondition, as the kernel's run takes it -/

/-- Reshaped, the indices are still in range. -/
theorem ranged {F : FTy → Type} (m : (ℓ : Loc Cert.KernelIdeal.nD Cert.KernelIdeal.τ Cert.KernelIdeal.sig) → Buf (Elt F) ℓ)
    (c : Dev Cert.KernelIdeal.nD)
    (h : ∀ p : Cert.KernelIdeal.S4096x200.Idx, 0 ≤ (m (Look.aLoc c) p : BitVec 32).toInt ∧ (m (Look.aLoc c) p : BitVec 32).toInt < 10000) :
    Look.Ranged (Look.Xm m c) := fun x => (Look.toNat_of_range (h (Shape.reshapeEquiv _ x))).2

/-! ## The frames -/

theorem frame_kernel : Cert.quiescent_Kernel := fun m ρ hp =>
  (θ_run Cert.KernelIdeal.defs _ _).mono (fun _ h => ⟨fun c => ⟨(h.1 c).1, (h.1 c).2.1⟩, h.2⟩)
    (Look.run_main (F := Bits) m ρ fun c => ranged m c (Look.range_of_pre _ _ (hp c)))

theorem frame_kernelIdeal : Cert.quiescent_KernelIdeal := fun m ρ hp =>
  (θ_run Cert.KernelIdeal.defs _ _).mono (fun _ h => ⟨fun c => ⟨(h.1 c).1, (h.1 c).2.1⟩, h.2⟩)
    (Look.run_main (F := Ideal) m ρ fun c => ranged m c (Look.range_of_pre _ _ (hp c)))

/-- The reference declares no semaphore, so every counter of it is zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_in_range : Cert.quiescent_ReferenceIdeal_pre_in_range := fun m ρ _ => frame_reference m ρ trivial

/-! ## The result -/

theorem algebraic : Cert.algebraic_KernelIdeal_ReferenceIdeal := by
  intro m ρ m' ρ' hp hagree
  have hx := fun c => Look.range_of_pre _ _ (hp c)
  refine ⟨fun c => Look.Rm m c, (θ_run Cert.KernelIdeal.defs _ _).mono
      (fun _ h c => ⟨(h.1 c).2.2, (h.1 c).1, (h.1 c).2.1⟩) (Look.run_main (F := Ideal) m ρ fun c => ranged m c (hx c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Look.lookup_eq_taken (F := Ideal) _ _ _ _ (hx c)).symm

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, algebraic⟩

end Cert.Proof

end
